-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v5_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x8x64 : Shape := ⟨4, ![8, 4096, 8, 64]⟩
abbrev S8x257 : Shape := ⟨2, ![8, 257]⟩
abbrev S_ : Shape := ⟨0, ![]⟩

class Facts : Prop where
  bcast_S_S8x4096x8x64 : S_.BroadcastsInDim S8x4096x8x64 (![] : Fin 0 → Fin S8x4096x8x64.rank)
  bcast_S_S8x257 : S_.BroadcastsInDim S8x257 (![] : Fin 0 → Fin S8x257.rank)
  reducesTo_S8x257_S_d0_1 : S8x257.ReducesTo [0, 1] S_
  h_S_ : 0 < S_.numel

variable [Facts]

def fn {F : FTy → Type} [FloatOps F] (main_arg0 : FVec F S8x4096x8x64 .f32) (main_arg1 : FVec F S8x4096x8x64 .f32) (main_arg2 : FVec F S8x4096x8x64 .f32) (main_arg3 : FVec F S8x257 .f32) : IVec S8x4096x8x64 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x8x64 .f32 := Host.absf main_arg1
  let main_cst_0 : FVec F S_ .f32 := constant S_ .f32 0x7F800000#32
  let main_v4 : FVec F S8x4096x8x64 .f32 := broadcastInDim S8x4096x8x64 ![] bcast_S_S8x4096x8x64 main_cst_0
  let main_v5 : IVec S8x4096x8x64 1 := cmpf .olt main_v3 main_v4
  let main_v6 : IVec S8x4096x8x64 1 := andi main_v2 main_v5
  let main_v7 : FVec F S8x257 .f32 := Host.absf main_arg3
  let main_cst_1 : FVec F S_ .f32 := constant S_ .f32 0x7F800000#32
  let main_v8 : FVec F S8x257 .f32 := broadcastInDim S8x257 ![] bcast_S_S8x257 main_cst_1
  let main_v9 : IVec S8x257 1 := cmpf .olt main_v7 main_v8
  let main_c : IVec S_ 1 := constantI S_ 1 1#1
  let main_v10 : IVec S_ 1 := (fun x v => Host.reduce IntOp.andi x v reducesTo_S8x257_S_d0_1 h_S_) main_v9 main_c
  let main_v11 : IVec S8x4096x8x64 1 := broadcastInDim S8x4096x8x64 ![] bcast_S_S8x4096x8x64 main_v10
  let main_v12 : IVec S8x4096x8x64 1 := andi main_v6 main_v11
  main_v12
-- ==== Kernel.lean ====
abbrev S8x4096x8x64 : Shape := ⟨4, ![8, 4096, 8, 64]⟩
abbrev S8x257 : Shape := ⟨2, ![8, 257]⟩
abbrev S8x8x512x512 : Shape := ⟨4, ![8, 8, 512, 512]⟩
abbrev S_ : Shape := ⟨0, ![]⟩
abbrev S8x8x16x512 : Shape := ⟨4, ![8, 8, 16, 512]⟩
abbrev S8x8x128x512 : Shape := ⟨4, ![8, 8, 128, 512]⟩
abbrev S8x4096x512 : Shape := ⟨3, ![8, 4096, 512]⟩
abbrev S8x8x576x512 : Shape := ⟨4, ![8, 8, 576, 512]⟩
abbrev S256 : Shape := ⟨1, ![256]⟩
abbrev S768 : Shape := ⟨1, ![768]⟩
abbrev S1x256 : Shape := ⟨2, ![1, 256]⟩
abbrev S768x1 : Shape := ⟨2, ![768, 1]⟩
abbrev S768x256 : Shape := ⟨2, ![768, 256]⟩
abbrev S1x768x256 : Shape := ⟨3, ![1, 768, 256]⟩
abbrev S768x256x1 : Shape := ⟨3, ![768, 256, 1]⟩
abbrev S8x768x256 : Shape := ⟨3, ![8, 768, 256]⟩
abbrev S4x2x768x256 : Shape := ⟨4, ![4, 2, 768, 256]⟩
abbrev S4x768x2x256 : Shape := ⟨4, ![4, 768, 2, 256]⟩
abbrev S4x768x512 : Shape := ⟨3, ![4, 768, 512]⟩
abbrev S1x8x128x512 : Shape := ⟨4, ![1, 8, 128, 512]⟩
abbrev S1x4096x128 : Shape := ⟨3, ![1, 4096, 128]⟩
abbrev S1x8x144x512 : Shape := ⟨4, ![1, 8, 144, 512]⟩
abbrev S1x768x512 : Shape := ⟨3, ![1, 768, 512]⟩
abbrev S1x128x8192 : Shape := ⟨3, ![1, 128, 8192]⟩
abbrev S256x512 : Shape := ⟨2, ![256, 512]⟩
abbrev S1x1x128x512 : Shape := ⟨4, ![1, 1, 128, 512]⟩
abbrev S128x512 : Shape := ⟨2, ![128, 512]⟩
abbrev S128x1024 : Shape := ⟨2, ![128, 1024]⟩
abbrev S128x256 : Shape := ⟨2, ![128, 256]⟩
abbrev S128x8192 : Shape := ⟨2, ![128, 8192]⟩
abbrev S1x256x128 : Shape := ⟨3, ![1, 256, 128]⟩
abbrev S256x128 : Shape := ⟨2, ![256, 128]⟩
abbrev S1x128x512 : Shape := ⟨3, ![1, 128, 512]⟩
abbrev S1x256x512 : Shape := ⟨3, ![1, 256, 512]⟩
abbrev S1x1x144x256 : Shape := ⟨4, ![1, 1, 144, 256]⟩
abbrev S144x256 : Shape := ⟨2, ![144, 256]⟩
abbrev S512 : Shape := ⟨1, ![512]⟩
abbrev S1x512 : Shape := ⟨2, ![1, 512]⟩
abbrev S144x512 : Shape := ⟨2, ![144, 512]⟩
abbrev S64x256 : Shape := ⟨2, ![64, 256]⟩
abbrev S512x128 : Shape := ⟨2, ![512, 128]⟩
abbrev S1x512x128 : Shape := ⟨3, ![1, 512, 128]⟩

abbrev nBuf : Space → Nat
  | .hbm => 109
  | .vmem => 13
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x257, .f32⟩
  | .hbm, ⟨4, _⟩ => ⟨S8x4096x8x64, .bf16⟩
  | .hbm, ⟨5, _⟩ => ⟨S8x8x512x512, .bf16⟩
  | .hbm, ⟨6, _⟩ => ⟨S8x8x512x512, .bf16⟩
  | .hbm, ⟨7, _⟩ => ⟨S_, .bf16⟩
  | .hbm, ⟨8, _⟩ => ⟨S8x8x16x512, .bf16⟩
  | .hbm, ⟨9, _⟩ => ⟨S8x8x128x512, .bf16⟩
  | .hbm, ⟨10, _⟩ => ⟨S8x8x128x512, .bf16⟩
  | .hbm, ⟨11, _⟩ => ⟨S8x8x128x512, .bf16⟩
  | .hbm, ⟨12, _⟩ => ⟨S8x8x128x512, .bf16⟩
  | .hbm, ⟨13, _⟩ => ⟨S8x8x512x512, .f32⟩
  | .hbm, ⟨14, _⟩ => ⟨S8x8x512x512, .f32⟩
  | .hbm, ⟨15, _⟩ => ⟨S8x4096x8x64, .bf16⟩
  | .hbm, ⟨16, _⟩ => ⟨S8x4096x512, .bf16⟩
  | .hbm, ⟨17, _⟩ => ⟨S8x8x576x512, .bf16⟩
  | .hbm, ⟨18, _⟩ => ⟨S256, .i32⟩
  | .hbm, ⟨19, _⟩ => ⟨S768, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S768x1, .i32⟩
  | .hbm, ⟨25, _⟩ => ⟨S768x256, .i32⟩
  | .hbm, ⟨26, _⟩ => ⟨S768x256, .i32⟩
  | .hbm, ⟨27, _⟩ => ⟨S768x256, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S768x256, .i32⟩
  | .hbm, ⟨32, _⟩ => ⟨S768x256, .i32⟩
  | .hbm, ⟨33, _⟩ => ⟨S_, .i32⟩
  | .hbm, ⟨34, _⟩ => ⟨S768x256, .i32⟩
  | .hbm, ⟨35, _⟩ => ⟨S768x256, .i32⟩
  | .hbm, ⟨36, _⟩ => ⟨S_, .i32⟩
  | .hbm, ⟨37, _⟩ => ⟨S768x256, .i32⟩
  | .hbm, ⟨38, _⟩ => ⟨S768x256, .i32⟩
  | .hbm, ⟨39, _⟩ => ⟨S1x256, .i32⟩
  | .hbm, ⟨40, _⟩ => ⟨S_, .i32⟩
  | .hbm, ⟨41, _⟩ => ⟨S_, .i32⟩
  | .hbm, ⟨42, _⟩ => ⟨S1x256, .i32⟩
  | .hbm, ⟨43, _⟩ => ⟨S1x256, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x256, .i32⟩
  | .hbm, ⟨49, _⟩ => ⟨S1x256, .i32⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S1x256, .i1⟩
  | .hbm, ⟨54, _⟩ => ⟨S_, .i32⟩
  | .hbm, ⟨55, _⟩ => ⟨S1x256, .i32⟩
  | .hbm, ⟨56, _⟩ => ⟨S1x256, .i32⟩
  | .hbm, ⟨57, _⟩ => ⟨S1x256, .i32⟩
  | .hbm, ⟨58, _⟩ => ⟨S_, .i32⟩
  | .hbm, ⟨59, _⟩ => ⟨S1x256, .i32⟩
  | .hbm, ⟨60, _⟩ => ⟨S1x256, .i32⟩
  | .hbm, ⟨61, _⟩ => ⟨S768x1, .i32⟩
  | .hbm, ⟨62, _⟩ => ⟨S_, .i32⟩
  | .hbm, ⟨63, _⟩ => ⟨S_, .i32⟩
  | .hbm, ⟨64, _⟩ => ⟨S768x1, .i32⟩
  | .hbm, ⟨65, _⟩ => ⟨S768x1, .i32⟩
  | .hbm, ⟨66, _⟩ => ⟨S768x1, .i32⟩
  | .hbm, ⟨67, _⟩ => ⟨S_, .i32⟩
  | .hbm, ⟨68, _⟩ => ⟨S768x1, .i32⟩
  | .hbm, ⟨69, _⟩ => ⟨S768x1, .i1⟩
  | .hbm, ⟨70, _⟩ => ⟨S768x1, .i32⟩
  | .hbm, ⟨71, _⟩ => ⟨S768x1, .i32⟩
  | .hbm, ⟨72, _⟩ => ⟨S_, .i32⟩
  | .hbm, ⟨73, _⟩ => ⟨S768x1, .i32⟩
  | .hbm, ⟨74, _⟩ => ⟨S768x1, .i1⟩
  | .hbm, ⟨75, _⟩ => ⟨S768x1, .i1⟩
  | .hbm, ⟨76, _⟩ => ⟨S_, .i32⟩
  | .hbm, ⟨77, _⟩ => ⟨S768x1, .i32⟩
  | .hbm, ⟨78, _⟩ => ⟨S768x1, .i32⟩
  | .hbm, ⟨79, _⟩ => ⟨S768x1, .i32⟩
  | .hbm, ⟨80, _⟩ => ⟨S768x256, .i32⟩
  | .hbm, ⟨81, _⟩ => ⟨S768x256, .i32⟩
  | .hbm, ⟨82, _⟩ => ⟨S768x256, .i32⟩
  | .hbm, ⟨83, _⟩ => ⟨S_, .i32⟩
  | .hbm, ⟨84, _⟩ => ⟨S768x256, .i32⟩
  | .hbm, ⟨85, _⟩ => ⟨S768x256, .i1⟩
  | .hbm, ⟨86, _⟩ => ⟨S_, .i32⟩
  | .hbm, ⟨87, _⟩ => ⟨S768x256, .i32⟩
  | .hbm, ⟨88, _⟩ => ⟨S768x256, .i1⟩
  | .hbm, ⟨89, _⟩ => ⟨S768x256, .i1⟩
  | .hbm, ⟨90, _⟩ => ⟨S1x768x256, .i1⟩
  | .hbm, ⟨91, _⟩ => ⟨S_, .i32⟩
  | .hbm, ⟨92, _⟩ => ⟨S768x256, .i32⟩
  | .hbm, ⟨93, _⟩ => ⟨S768x256, .i1⟩
  | .hbm, ⟨94, _⟩ => ⟨S_, .i32⟩
  | .hbm, ⟨95, _⟩ => ⟨S768x256, .i32⟩
  | .hbm, ⟨96, _⟩ => ⟨S768x256, .i32⟩
  | .hbm, ⟨97, _⟩ => ⟨S768x256, .i32⟩
  | .hbm, ⟨98, _⟩ => ⟨S768x256x1, .i32⟩
  | .hbm, ⟨99, _⟩ => ⟨S8x768x256, .f32⟩
  | .hbm, ⟨100, _⟩ => ⟨S_, .f32⟩
  | .hbm, ⟨101, _⟩ => ⟨S_, .f32⟩
  | .hbm, ⟨102, _⟩ => ⟨S8x768x256, .i1⟩
  | .hbm, ⟨103, _⟩ => ⟨S8x768x256, .f32⟩
  | .hbm, ⟨104, _⟩ => ⟨S8x768x256, .f32⟩
  | .hbm, ⟨105, _⟩ => ⟨S4x2x768x256, .f32⟩
  | .hbm, ⟨106, _⟩ => ⟨S4x768x2x256, .f32⟩
  | .hbm, ⟨107, _⟩ => ⟨S4x768x512, .f32⟩
  | .hbm, ⟨108, _⟩ => ⟨S8x4096x512, .bf16⟩
  | .local _ .vmem, ⟨0, _⟩ => ⟨S1x8x128x512, .f32⟩
  | .local _ .vmem, ⟨1, _⟩ => ⟨S1x8x128x512, .f32⟩
  | .local _ .vmem, ⟨2, _⟩ => ⟨S1x4096x128, .bf16⟩
  | .local _ .vmem, ⟨3, _⟩ => ⟨S1x4096x128, .bf16⟩
  | .local _ .vmem, ⟨4, _⟩ => ⟨S1x8x144x512, .bf16⟩
  | .local _ .vmem, ⟨5, _⟩ => ⟨S1x8x144x512, .bf16⟩
  | .local _ .vmem, ⟨6, _⟩ => ⟨S1x768x512, .f32⟩
  | .local _ .vmem, ⟨7, _⟩ => ⟨S1x768x512, .f32⟩
  | .local _ .vmem, ⟨8, _⟩ => ⟨S1x4096x128, .bf16⟩
  | .local _ .vmem, ⟨9, _⟩ => ⟨S1x4096x128, .bf16⟩
  | .local _ .vmem, ⟨10, _⟩ => ⟨S1x128x8192, .bf16⟩
  | .local _ .vmem, ⟨11, _⟩ => ⟨S256x512, .f32⟩
  | .local _ .vmem, ⟨12, _⟩ => ⟨S256x512, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v26 : Ref sig .tc := ⟨.hbm, 57, rfl⟩
abbrev main_c_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_6 : Ref sig .tc := ⟨.hbm, 83, rfl⟩
abbrev main_v34 : Ref sig .tc := ⟨.hbm, 84, rfl⟩
abbrev main_v35 : Ref sig .tc := ⟨.hbm, 85, rfl⟩
abbrev main_c_7 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_8 : Ref sig .tc := ⟨.hbm, 91, rfl⟩
abbrev main_v40 : Ref sig .tc := ⟨.hbm, 92, rfl⟩
abbrev main_v41 : Ref sig .tc := ⟨.hbm, 93, rfl⟩
abbrev main_c_9 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c0_i32_121 : BitVec 32 := 0#32
  let v260 : BitVec 32 := Scalar.maxsi c0_i32 c0_i32_121
  let c0_i32_122 : BitVec 32 := 0#32
  let v262 : BitVec 1 := Scalar.cmpi .sgt v260 c0_i32_122
  let v263 : BitVec 32 := Scalar.extui v262
  let c0_i32_123 : BitVec 32 := 0#32
  let v264 : BitVec 1 := Scalar.cmpi .slt v260 c0_i32_123
  let v265 : BitVec 32 := Scalar.extui v264
  let v266 : BitVec 32 := Scalar.subi v263 v265
  let c2_i32 : BitVec 32 := 2#32
  let c0_i32_124 : BitVec 32 := 0#32
  let v267 : BitVec 1 := Scalar.cmpi .sgt c2_i32 c0_i32_124
  let v268 : BitVec 32 := Scalar.extui v267
  let c0_i32_125 : BitVec 32 := 0#32
  let v269 : BitVec 1 := Scalar.cmpi .slt c2_i32 c0_i32_125
  let v270 : BitVec 32 := Scalar.extui v269
  let v271 : BitVec 32 := Scalar.subi v268 v270
  let v272 : BitVec 1 := Scalar.cmpi .ne v266 v271
  let v273 : BitVec 32 := Scalar.remsi v260 c2_i32
  let c0_i32_126 : BitVec 32 := 0#32
  let v274 : BitVec 1 := Scalar.cmpi .ne v273 c0_i32_126
  let v275 : BitVec 1 := Scalar.andi v272 v274
  let v261 : BitVec 32 := Scalar.divsi v260 c2_i32
  let c1_i32 : BitVec 32 := 1#32
  let v276 : BitVec 32 := Scalar.subi v261 c1_i32
  let v277 : BitVec 32 := Scalar.select v275 v276 v261
  let c512_i32 : BitVec 32 := 512#32
  let v278 : BitVec 32 := Scalar.muli v277 c512_i32
  let c0_i32_127 : BitVec 32 := 0#32
  let v279 : BitVec 32 := Scalar.addi v278 c0_i32_127
  v279
def k0_off1 (c0_i32 : BitVec 32) (c0_i32_127 : BitVec 32) : Fin 3 → Nat :=
  let c0_128 : Index := 0#32
  let c0_i32_121 : BitVec 32 := 0#32
  let v260 : BitVec 32 := Scalar.maxsi c0_i32 c0_i32_121
  let c0_i32_122 : BitVec 32 := 0#32
  let v262 : BitVec 1 := Scalar.cmpi .sgt v260 c0_i32_122
  let v263 : BitVec 32 := Scalar.extui v262
  let c0_i32_123 : BitVec 32 := 0#32
  let v264 : BitVec 1 := Scalar.cmpi .slt v260 c0_i32_123
  let v265 : BitVec 32 := Scalar.extui v264
  let v266 : BitVec 32 := Scalar.subi v263 v265
  let c2_i32 : BitVec 32 := 2#32
  let c0_i32_124 : BitVec 32 := 0#32
  let v267 : BitVec 1 := Scalar.cmpi .sgt c2_i32 c0_i32_124
  let v268 : BitVec 32 := Scalar.extui v267
  let c0_i32_125 : BitVec 32 := 0#32
  let v269 : BitVec 1 := Scalar.cmpi .slt c2_i32 c0_i32_125
  let v270 : BitVec 32 := Scalar.extui v269
  let v271 : BitVec 32 := Scalar.subi v268 v270
  let v272 : BitVec 1 := Scalar.cmpi .ne v266 v271
  let v273 : BitVec 32 := Scalar.remsi v260 c2_i32
  let c0_i32_126 : BitVec 32 := 0#32
  let v274 : BitVec 1 := Scalar.cmpi .ne v273 c0_i32_126
  let v275 : BitVec 1 := Scalar.andi v272 v274
  let v261 : BitVec 32 := Scalar.divsi v260 c2_i32
  let c1_i32 : BitVec 32 := 1#32
  let v276 : BitVec 32 := Scalar.subi v261 c1_i32
  let v277 : BitVec 32 := Scalar.select v275 v276 v261
  let c512_i32 : BitVec 32 := 512#32
  let v278 : BitVec 32 := Scalar.muli v277 c512_i32
  let v279 : BitVec 32 := Scalar.addi v278 c0_i32_127
  let v280 : BitVec 32 := v279
  let v281 : Index := Scalar.indexCast v280
  let c0_129 : Index := 0#32
  ![0, v281.toNat, 0]
def k0_off1_at (r : Fin 2) : BitVec 32 × BitVec 32 :=
  if r.val < 1 then
    (0#32, 0#32)
  else
    (1#32, 256#32)
def k0_mult2 : BitVec 32 :=
  let c1_i32_139 : BitVec 32 := 1#32
  let c0_i32_140 : BitVec 32 := 0#32
  let v295 : BitVec 32 := Scalar.maxsi c1_i32_139 c0_i32_140
  let c0_i32_142 : BitVec 32 := 0#32
  let v297 : BitVec 1 := Scalar.cmpi .sgt v295 c0_i32_142
  let v298 : BitVec 32 := Scalar.extui v297
  let c0_i32_143 : BitVec 32 := 0#32
  let v299 : BitVec 1 := Scalar.cmpi .slt v295 c0_i32_143
  let v300 : BitVec 32 := Scalar.extui v299
  let v301 : BitVec 32 := Scalar.subi v298 v300
  let c2_i32_141 : BitVec 32 := 2#32
  let c0_i32_144 : BitVec 32 := 0#32
  let v302 : BitVec 1 := Scalar.cmpi .sgt c2_i32_141 c0_i32_144
  let v303 : BitVec 32 := Scalar.extui v302
  let c0_i32_145 : BitVec 32 := 0#32
  let v304 : BitVec 1 := Scalar.cmpi .slt c2_i32_141 c0_i32_145
  let v305 : BitVec 32 := Scalar.extui v304
  let v306 : BitVec 32 := Scalar.subi v303 v305
  let v307 : BitVec 1 := Scalar.cmpi .ne v301 v306
  let v308 : BitVec 32 := Scalar.remsi v295 c2_i32_141
  let c0_i32_146 : BitVec 32 := 0#32
  let v309 : BitVec 1 := Scalar.cmpi .ne v308 c0_i32_146
  let v310 : BitVec 1 := Scalar.andi v307 v309
  let v296 : BitVec 32 := Scalar.divsi v295 c2_i32_141
  let c1_i32_147 : BitVec 32 := 1#32
  let v311 : BitVec 32 := Scalar.subi v296 c1_i32_147
  let v312 : BitVec 32 := Scalar.select v310 v311 v296
  let c512_i32_148 : BitVec 32 := 512#32
  let v313 : BitVec 32 := Scalar.muli v312 c512_i32_148
  let c256_i32 : BitVec 32 := 256#32
  let v314 : BitVec 32 := Scalar.addi v313 c256_i32
  v314
def k0_mult3 : BitVec 32 :=
  let c0_i32_161 : BitVec 32 := 0#32
  let c16_i32 : BitVec 32 := 16#32
  let v332 : BitVec 32 := Scalar.muli c0_i32_161 c16_i32
  let c4_i32 : BitVec 32 := 4#32
  let v333 : BitVec 32 := Scalar.addi v332 c4_i32
  let c2_i32_166 : BitVec 32 := 2#32
  let v334 : BitVec 32 := Scalar.subi v333 c2_i32_166
  let c0_i32_167 : BitVec 32 := 0#32
  let v335 : BitVec 32 := Scalar.maxsi v334 c0_i32_167
  let c0_i32_169 : BitVec 32 := 0#32
  let v337 : BitVec 1 := Scalar.cmpi .sgt v335 c0_i32_169
  let v338 : BitVec 32 := Scalar.extui v337
  let c0_i32_170 : BitVec 32 := 0#32
  let v339 : BitVec 1 := Scalar.cmpi .slt v335 c0_i32_170
  let v340 : BitVec 32 := Scalar.extui v339
  let v341 : BitVec 32 := Scalar.subi v338 v340
  let c2_i32_168 : BitVec 32 := 2#32
  let c0_i32_171 : BitVec 32 := 0#32
  let v342 : BitVec 1 := Scalar.cmpi .sgt c2_i32_168 c0_i32_171
  let v343 : BitVec 32 := Scalar.extui v342
  let c0_i32_172 : BitVec 32 := 0#32
  let v344 : BitVec 1 := Scalar.cmpi .slt c2_i32_168 c0_i32_172
  let v345 : BitVec 32 := Scalar.extui v344
  let v346 : BitVec 32 := Scalar.subi v343 v345
  let v347 : BitVec 1 := Scalar.cmpi .ne v341 v346
  let v348 : BitVec 32 := Scalar.remsi v335 c2_i32_168
  let c0_i32_173 : BitVec 32 := 0#32
  let v349 : BitVec 1 := Scalar.cmpi .ne v348 c0_i32_173
  let v350 : BitVec 1 := Scalar.andi v347 v349
  let v336 : BitVec 32 := Scalar.divsi v335 c2_i32_168
  let c1_i32_174 : BitVec 32 := 1#32
  let v351 : BitVec 32 := Scalar.subi v336 c1_i32_174
  let v352 : BitVec 32 := Scalar.select v350 v351 v336
  let c512_i32_175 : BitVec 32 := 512#32
  let v353 : BitVec 32 := Scalar.muli v352 c512_i32_175
  let c0_i32_176 : BitVec 32 := 0#32
  let v354 : BitVec 32 := Scalar.addi v353 c0_i32_176
  v354
def k0_off2 (c4_i32 : BitVec 32) (c0_i32_176 : BitVec 32) : Fin 3 → Nat :=
  let c0_177 : Index := 0#32
  let c0_i32_161 : BitVec 32 := 0#32
  let c16_i32 : BitVec 32 := 16#32
  let v332 : BitVec 32 := Scalar.muli c0_i32_161 c16_i32
  let v333 : BitVec 32 := Scalar.addi v332 c4_i32
  let c2_i32_166 : BitVec 32 := 2#32
  let v334 : BitVec 32 := Scalar.subi v333 c2_i32_166
  let c0_i32_167 : BitVec 32 := 0#32
  let v335 : BitVec 32 := Scalar.maxsi v334 c0_i32_167
  let c0_i32_169 : BitVec 32 := 0#32
  let v337 : BitVec 1 := Scalar.cmpi .sgt v335 c0_i32_169
  let v338 : BitVec 32 := Scalar.extui v337
  let c0_i32_170 : BitVec 32 := 0#32
  let v339 : BitVec 1 := Scalar.cmpi .slt v335 c0_i32_170
  let v340 : BitVec 32 := Scalar.extui v339
  let v341 : BitVec 32 := Scalar.subi v338 v340
  let c2_i32_168 : BitVec 32 := 2#32
  let c0_i32_171 : BitVec 32 := 0#32
  let v342 : BitVec 1 := Scalar.cmpi .sgt c2_i32_168 c0_i32_171
  let v343 : BitVec 32 := Scalar.extui v342
  let c0_i32_172 : BitVec 32 := 0#32
  let v344 : BitVec 1 := Scalar.cmpi .slt c2_i32_168 c0_i32_172
  let v345 : BitVec 32 := Scalar.extui v344
  let v346 : BitVec 32 := Scalar.subi v343 v345
  let v347 : BitVec 1 := Scalar.cmpi .ne v341 v346
  let v348 : BitVec 32 := Scalar.remsi v335 c2_i32_168
  let c0_i32_173 : BitVec 32 := 0#32
  let v349 : BitVec 1 := Scalar.cmpi .ne v348 c0_i32_173
  let v350 : BitVec 1 := Scalar.andi v347 v349
  let v336 : BitVec 32 := Scalar.divsi v335 c2_i32_168
  let c1_i32_174 : BitVec 32 := 1#32
  let v351 : BitVec 32 := Scalar.subi v336 c1_i32_174
  let v352 : BitVec 32 := Scalar.select v350 v351 v336
  let c512_i32_175 : BitVec 32 := 512#32
  let v353 : BitVec 32 := Scalar.muli v352 c512_i32_175
  let v354 : BitVec 32 := Scalar.addi v353 c0_i32_176
  let v355 : BitVec 32 := v354
  let v356 : Index := Scalar.indexCast v355
  let c0_178 : Index := 0#32
  ![0, v356.toNat, 0]
def k0_off2_at (r : Fin 18) : BitVec 32 × BitVec 32 :=
  if r.val < 9 then
    if r.val < 4 then
      if r.val < 2 then
        if r.val < 1 then
          (4#32, 0#32)
        else
          (5#32, 256#32)
      else
        if r.val < 3 then
          (6#32, 0#32)
        else
          (7#32, 256#32)
    else
      if r.val < 6 then
        if r.val < 5 then
          (8#32, 0#32)
        else
          (9#32, 256#32)
      else
        if r.val < 7 then
          (10#32, 0#32)
        else
          if r.val < 8 then
            (11#32, 256#32)
          else
            (12#32, 0#32)
  else
    if r.val < 13 then
      if r.val < 11 then
        if r.val < 10 then
          (13#32, 256#32)
        else
          (14#32, 0#32)
      else
        if r.val < 12 then
          (15#32, 256#32)
        else
          (16#32, 0#32)
    else
      if r.val < 15 then
        if r.val < 14 then
          (17#32, 256#32)
        else
          (1#32, 256#32)
      else
        if r.val < 16 then
          (2#32, 0#32)
        else
          if r.val < 17 then
            (3#32, 256#32)
          else
            (0#32, 0#32)
def k0_off3 (c2_i32_186 : BitVec 32) : Fin 4 → Nat :=
  let c0_196 : Index := 0#32
  let c0_i32_161 : BitVec 32 := 0#32
  let c16_i32_185 : BitVec 32 := 16#32
  let v368 : BitVec 32 := Scalar.muli c0_i32_161 c16_i32_185
  let v369 : BitVec 32 := Scalar.addi v368 c2_i32_186
  let c2_i32_187 : BitVec 32 := 2#32
  let v370 : BitVec 32 := Scalar.subi v369 c2_i32_187
  let c0_i32_188 : BitVec 32 := 0#32
  let v371 : BitVec 32 := Scalar.maxsi v370 c0_i32_188
  let c0_i32_190 : BitVec 32 := 0#32
  let v373 : BitVec 1 := Scalar.cmpi .sgt v371 c0_i32_190
  let v374 : BitVec 32 := Scalar.extui v373
  let c0_i32_191 : BitVec 32 := 0#32
  let v375 : BitVec 1 := Scalar.cmpi .slt v371 c0_i32_191
  let v376 : BitVec 32 := Scalar.extui v375
  let v377 : BitVec 32 := Scalar.subi v374 v376
  let c2_i32_189 : BitVec 32 := 2#32
  let c0_i32_192 : BitVec 32 := 0#32
  let v378 : BitVec 1 := Scalar.cmpi .sgt c2_i32_189 c0_i32_192
  let v379 : BitVec 32 := Scalar.extui v378
  let c0_i32_193 : BitVec 32 := 0#32
  let v380 : BitVec 1 := Scalar.cmpi .slt c2_i32_189 c0_i32_193
  let v381 : BitVec 32 := Scalar.extui v380
  let v382 : BitVec 32 := Scalar.subi v379 v381
  let v383 : BitVec 1 := Scalar.cmpi .ne v377 v382
  let v384 : BitVec 32 := Scalar.remsi v371 c2_i32_189
  let c0_i32_194 : BitVec 32 := 0#32
  let v385 : BitVec 1 := Scalar.cmpi .ne v384 c0_i32_194
  let v386 : BitVec 1 := Scalar.andi v383 v385
  let v372 : BitVec 32 := Scalar.divsi v371 c2_i32_189
  let c1_i32_195 : BitVec 32 := 1#32
  let v387 : BitVec 32 := Scalar.subi v372 c1_i32_195
  let v388 : BitVec 32 := Scalar.select v386 v387 v372
  let v389 : Index := Scalar.indexCast v388
  let c0_197 : Index := 0#32
  let c0_198 : Index := 0#32
  ![0, v389.toNat, 0, 0]
def k0_mult4 : BitVec 32 :=
  let c0_i32_161 : BitVec 32 := 0#32
  let c16_i32_201 : BitVec 32 := 16#32
  let v399 : BitVec 32 := Scalar.muli c0_i32_161 c16_i32_201
  let c5_i32 : BitVec 32 := 5#32
  let v400 : BitVec 32 := Scalar.addi v399 c5_i32
  let c2_i32_202 : BitVec 32 := 2#32
  let v401 : BitVec 32 := Scalar.subi v400 c2_i32_202
  let c0_i32_203 : BitVec 32 := 0#32
  let v402 : BitVec 32 := Scalar.maxsi v401 c0_i32_203
  let c0_i32_205 : BitVec 32 := 0#32
  let v404 : BitVec 1 := Scalar.cmpi .sgt v402 c0_i32_205
  let v405 : BitVec 32 := Scalar.extui v404
  let c0_i32_206 : BitVec 32 := 0#32
  let v406 : BitVec 1 := Scalar.cmpi .slt v402 c0_i32_206
  let v407 : BitVec 32 := Scalar.extui v406
  let v408 : BitVec 32 := Scalar.subi v405 v407
  let c2_i32_204 : BitVec 32 := 2#32
  let c0_i32_207 : BitVec 32 := 0#32
  let v409 : BitVec 1 := Scalar.cmpi .sgt c2_i32_204 c0_i32_207
  let v410 : BitVec 32 := Scalar.extui v409
  let c0_i32_208 : BitVec 32 := 0#32
  let v411 : BitVec 1 := Scalar.cmpi .slt c2_i32_204 c0_i32_208
  let v412 : BitVec 32 := Scalar.extui v411
  let v413 : BitVec 32 := Scalar.subi v410 v412
  let v414 : BitVec 1 := Scalar.cmpi .ne v408 v413
  let v415 : BitVec 32 := Scalar.remsi v402 c2_i32_204
  let c0_i32_209 : BitVec 32 := 0#32
  let v416 : BitVec 1 := Scalar.cmpi .ne v415 c0_i32_209
  let v417 : BitVec 1 := Scalar.andi v414 v416
  let v403 : BitVec 32 := Scalar.divsi v402 c2_i32_204
  let c1_i32_210 : BitVec 32 := 1#32
  let v418 : BitVec 32 := Scalar.subi v403 c1_i32_210
  let v419 : BitVec 32 := Scalar.select v417 v418 v403
  let c512_i32_211 : BitVec 32 := 512#32
  let v420 : BitVec 32 := Scalar.muli v419 c512_i32_211
  let c256_i32_212 : BitVec 32 := 256#32
  let v421 : BitVec 32 := Scalar.addi v420 c256_i32_212
  v421
def k0_off4 (c3_i32 : BitVec 32) : Fin 4 → Nat :=
  let c0_231 : Index := 0#32
  let c0_i32_161 : BitVec 32 := 0#32
  let c16_i32_221 : BitVec 32 := 16#32
  let v435 : BitVec 32 := Scalar.muli c0_i32_161 c16_i32_221
  let v436 : BitVec 32 := Scalar.addi v435 c3_i32
  let c2_i32_222 : BitVec 32 := 2#32
  let v437 : BitVec 32 := Scalar.subi v436 c2_i32_222
  let c0_i32_223 : BitVec 32 := 0#32
  let v438 : BitVec 32 := Scalar.maxsi v437 c0_i32_223
  let c0_i32_225 : BitVec 32 := 0#32
  let v440 : BitVec 1 := Scalar.cmpi .sgt v438 c0_i32_225
  let v441 : BitVec 32 := Scalar.extui v440
  let c0_i32_226 : BitVec 32 := 0#32
  let v442 : BitVec 1 := Scalar.cmpi .slt v438 c0_i32_226
  let v443 : BitVec 32 := Scalar.extui v442
  let v444 : BitVec 32 := Scalar.subi v441 v443
  let c2_i32_224 : BitVec 32 := 2#32
  let c0_i32_227 : BitVec 32 := 0#32
  let v445 : BitVec 1 := Scalar.cmpi .sgt c2_i32_224 c0_i32_227
  let v446 : BitVec 32 := Scalar.extui v445
  let c0_i32_228 : BitVec 32 := 0#32
  let v447 : BitVec 1 := Scalar.cmpi .slt c2_i32_224 c0_i32_228
  let v448 : BitVec 32 := Scalar.extui v447
  let v449 : BitVec 32 := Scalar.subi v446 v448
  let v450 : BitVec 1 := Scalar.cmpi .ne v444 v449
  let v451 : BitVec 32 := Scalar.remsi v438 c2_i32_224
  let c0_i32_229 : BitVec 32 := 0#32
  let v452 : BitVec 1 := Scalar.cmpi .ne v451 c0_i32_229
  let v453 : BitVec 1 := Scalar.andi v450 v452
  let v439 : BitVec 32 := Scalar.divsi v438 c2_i32_224
  let c1_i32_230 : BitVec 32 := 1#32
  let v454 : BitVec 32 := Scalar.subi v439 c1_i32_230
  let v455 : BitVec 32 := Scalar.select v453 v454 v439
  let v456 : Index := Scalar.indexCast v455
  let c0_232 : Index := 0#32
  let c256 : Index := 256#32
  ![0, v456.toNat, 0, 256]
def k0_mult5 : BitVec 32 :=
  let c0_i32_161 : BitVec 32 := 0#32
  let c16_i32_235 : BitVec 32 := 16#32
  let v466 : BitVec 32 := Scalar.muli c0_i32_161 c16_i32_235
  let c6_i32 : BitVec 32 := 6#32
  let v467 : BitVec 32 := Scalar.addi v466 c6_i32
  let c2_i32_236 : BitVec 32 := 2#32
  let v468 : BitVec 32 := Scalar.subi v467 c2_i32_236
  let c0_i32_237 : BitVec 32 := 0#32
  let v469 : BitVec 32 := Scalar.maxsi v468 c0_i32_237
  let c0_i32_239 : BitVec 32 := 0#32
  let v471 : BitVec 1 := Scalar.cmpi .sgt v469 c0_i32_239
  let v472 : BitVec 32 := Scalar.extui v471
  let c0_i32_240 : BitVec 32 := 0#32
  let v473 : BitVec 1 := Scalar.cmpi .slt v469 c0_i32_240
  let v474 : BitVec 32 := Scalar.extui v473
  let v475 : BitVec 32 := Scalar.subi v472 v474
  let c2_i32_238 : BitVec 32 := 2#32
  let c0_i32_241 : BitVec 32 := 0#32
  let v476 : BitVec 1 := Scalar.cmpi .sgt c2_i32_238 c0_i32_241
  let v477 : BitVec 32 := Scalar.extui v476
  let c0_i32_242 : BitVec 32 := 0#32
  let v478 : BitVec 1 := Scalar.cmpi .slt c2_i32_238 c0_i32_242
  let v479 : BitVec 32 := Scalar.extui v478
  let v480 : BitVec 32 := Scalar.subi v477 v479
  let v481 : BitVec 1 := Scalar.cmpi .ne v475 v480
  let v482 : BitVec 32 := Scalar.remsi v469 c2_i32_238
  let c0_i32_243 : BitVec 32 := 0#32
  let v483 : BitVec 1 := Scalar.cmpi .ne v482 c0_i32_243
  let v484 : BitVec 1 := Scalar.andi v481 v483
  let v470 : BitVec 32 := Scalar.divsi v469 c2_i32_238
  let c1_i32_244 : BitVec 32 := 1#32
  let v485 : BitVec 32 := Scalar.subi v470 c1_i32_244
  let v486 : BitVec 32 := Scalar.select v484 v485 v470
  let c512_i32_245 : BitVec 32 := 512#32
  let v487 : BitVec 32 := Scalar.muli v486 c512_i32_245
  let c0_i32_246 : BitVec 32 := 0#32
  let v488 : BitVec 32 := Scalar.addi v487 c0_i32_246
  v488
def k0_mult6 : BitVec 32 :=
  let c0_i32_161 : BitVec 32 := 0#32
  let c16_i32_271 : BitVec 32 := 16#32
  let v533 : BitVec 32 := Scalar.muli c0_i32_161 c16_i32_271
  let c7_i32 : BitVec 32 := 7#32
  let v534 : BitVec 32 := Scalar.addi v533 c7_i32
  let c2_i32_272 : BitVec 32 := 2#32
  let v535 : BitVec 32 := Scalar.subi v534 c2_i32_272
  let c0_i32_273 : BitVec 32 := 0#32
  let v536 : BitVec 32 := Scalar.maxsi v535 c0_i32_273
  let c0_i32_275 : BitVec 32 := 0#32
  let v538 : BitVec 1 := Scalar.cmpi .sgt v536 c0_i32_275
  let v539 : BitVec 32 := Scalar.extui v538
  let c0_i32_276 : BitVec 32 := 0#32
  let v540 : BitVec 1 := Scalar.cmpi .slt v536 c0_i32_276
  let v541 : BitVec 32 := Scalar.extui v540
  let v542 : BitVec 32 := Scalar.subi v539 v541
  let c2_i32_274 : BitVec 32 := 2#32
  let c0_i32_277 : BitVec 32 := 0#32
  let v543 : BitVec 1 := Scalar.cmpi .sgt c2_i32_274 c0_i32_277
  let v544 : BitVec 32 := Scalar.extui v543
  let c0_i32_278 : BitVec 32 := 0#32
  let v545 : BitVec 1 := Scalar.cmpi .slt c2_i32_274 c0_i32_278
  let v546 : BitVec 32 := Scalar.extui v545
  let v547 : BitVec 32 := Scalar.subi v544 v546
  let v548 : BitVec 1 := Scalar.cmpi .ne v542 v547
  let v549 : BitVec 32 := Scalar.remsi v536 c2_i32_274
  let c0_i32_279 : BitVec 32 := 0#32
  let v550 : BitVec 1 := Scalar.cmpi .ne v549 c0_i32_279
  let v551 : BitVec 1 := Scalar.andi v548 v550
  let v537 : BitVec 32 := Scalar.divsi v536 c2_i32_274
  let c1_i32_280 : BitVec 32 := 1#32
  let v552 : BitVec 32 := Scalar.subi v537 c1_i32_280
  let v553 : BitVec 32 := Scalar.select v551 v552 v537
  let c512_i32_281 : BitVec 32 := 512#32
  let v554 : BitVec 32 := Scalar.muli v553 c512_i32_281
  let c256_i32_282 : BitVec 32 := 256#32
  let v555 : BitVec 32 := Scalar.addi v554 c256_i32_282
  v555
def k0_mult7 : BitVec 32 :=
  let c0_i32_161 : BitVec 32 := 0#32
  let c16_i32_307 : BitVec 32 := 16#32
  let v600 : BitVec 32 := Scalar.muli c0_i32_161 c16_i32_307
  let c8_i32 : BitVec 32 := 8#32
  let v601 : BitVec 32 := Scalar.addi v600 c8_i32
  let c2_i32_308 : BitVec 32 := 2#32
  let v602 : BitVec 32 := Scalar.subi v601 c2_i32_308
  let c0_i32_309 : BitVec 32 := 0#32
  let v603 : BitVec 32 := Scalar.maxsi v602 c0_i32_309
  let c0_i32_311 : BitVec 32 := 0#32
  let v605 : BitVec 1 := Scalar.cmpi .sgt v603 c0_i32_311
  let v606 : BitVec 32 := Scalar.extui v605
  let c0_i32_312 : BitVec 32 := 0#32
  let v607 : BitVec 1 := Scalar.cmpi .slt v603 c0_i32_312
  let v608 : BitVec 32 := Scalar.extui v607
  let v609 : BitVec 32 := Scalar.subi v606 v608
  let c2_i32_310 : BitVec 32 := 2#32
  let c0_i32_313 : BitVec 32 := 0#32
  let v610 : BitVec 1 := Scalar.cmpi .sgt c2_i32_310 c0_i32_313
  let v611 : BitVec 32 := Scalar.extui v610
  let c0_i32_314 : BitVec 32 := 0#32
  let v612 : BitVec 1 := Scalar.cmpi .slt c2_i32_310 c0_i32_314
  let v613 : BitVec 32 := Scalar.extui v612
  let v614 : BitVec 32 := Scalar.subi v611 v613
  let v615 : BitVec 1 := Scalar.cmpi .ne v609 v614
  let v616 : BitVec 32 := Scalar.remsi v603 c2_i32_310
  let c0_i32_315 : BitVec 32 := 0#32
  let v617 : BitVec 1 := Scalar.cmpi .ne v616 c0_i32_315
  let v618 : BitVec 1 := Scalar.andi v615 v617
  let v604 : BitVec 32 := Scalar.divsi v603 c2_i32_310
  let c1_i32_316 : BitVec 32 := 1#32
  let v619 : BitVec 32 := Scalar.subi v604 c1_i32_316
  let v620 : BitVec 32 := Scalar.select v618 v619 v604
  let c512_i32_317 : BitVec 32 := 512#32
  let v621 : BitVec 32 := Scalar.muli v620 c512_i32_317
  let c0_i32_318 : BitVec 32 := 0#32
  let v622 : BitVec 32 := Scalar.addi v621 c0_i32_318
  v622
def k0_mult8 : BitVec 32 :=
  let c0_i32_161 : BitVec 32 := 0#32
  let c16_i32_343 : BitVec 32 := 16#32
  let v667 : BitVec 32 := Scalar.muli c0_i32_161 c16_i32_343
  let c9_i32 : BitVec 32 := 9#32
  let v668 : BitVec 32 := Scalar.addi v667 c9_i32
  let c2_i32_344 : BitVec 32 := 2#32
  let v669 : BitVec 32 := Scalar.subi v668 c2_i32_344
  let c0_i32_345 : BitVec 32 := 0#32
  let v670 : BitVec 32 := Scalar.maxsi v669 c0_i32_345
  let c0_i32_347 : BitVec 32 := 0#32
  let v672 : BitVec 1 := Scalar.cmpi .sgt v670 c0_i32_347
  let v673 : BitVec 32 := Scalar.extui v672
  let c0_i32_348 : BitVec 32 := 0#32
  let v674 : BitVec 1 := Scalar.cmpi .slt v670 c0_i32_348
  let v675 : BitVec 32 := Scalar.extui v674
  let v676 : BitVec 32 := Scalar.subi v673 v675
  let c2_i32_346 : BitVec 32 := 2#32
  let c0_i32_349 : BitVec 32 := 0#32
  let v677 : BitVec 1 := Scalar.cmpi .sgt c2_i32_346 c0_i32_349
  let v678 : BitVec 32 := Scalar.extui v677
  let c0_i32_350 : BitVec 32 := 0#32
  let v679 : BitVec 1 := Scalar.cmpi .slt c2_i32_346 c0_i32_350
  let v680 : BitVec 32 := Scalar.extui v679
  let v681 : BitVec 32 := Scalar.subi v678 v680
  let v682 : BitVec 1 := Scalar.cmpi .ne v676 v681
  let v683 : BitVec 32 := Scalar.remsi v670 c2_i32_346
  let c0_i32_351 : BitVec 32 := 0#32
  let v684 : BitVec 1 := Scalar.cmpi .ne v683 c0_i32_351
  let v685 : BitVec 1 := Scalar.andi v682 v684
  let v671 : BitVec 32 := Scalar.divsi v670 c2_i32_346
  let c1_i32_352 : BitVec 32 := 1#32
  let v686 : BitVec 32 := Scalar.subi v671 c1_i32_352
  let v687 : BitVec 32 := Scalar.select v685 v686 v671
  let c512_i32_353 : BitVec 32 := 512#32
  let v688 : BitVec 32 := Scalar.muli v687 c512_i32_353
  let c256_i32_354 : BitVec 32 := 256#32
  let v689 : BitVec 32 := Scalar.addi v688 c256_i32_354
  v689
def k0_mult9 : BitVec 32 :=
  let c0_i32_161 : BitVec 32 := 0#32
  let c16_i32_379 : BitVec 32 := 16#32
  let v734 : BitVec 32 := Scalar.muli c0_i32_161 c16_i32_379
  let c10_i32 : BitVec 32 := 10#32
  let v735 : BitVec 32 := Scalar.addi v734 c10_i32
  let c2_i32_380 : BitVec 32 := 2#32
  let v736 : BitVec 32 := Scalar.subi v735 c2_i32_380
  let c0_i32_381 : BitVec 32 := 0#32
  let v737 : BitVec 32 := Scalar.maxsi v736 c0_i32_381
  let c0_i32_383 : BitVec 32 := 0#32
  let v739 : BitVec 1 := Scalar.cmpi .sgt v737 c0_i32_383
  let v740 : BitVec 32 := Scalar.extui v739
  let c0_i32_384 : BitVec 32 := 0#32
  let v741 : BitVec 1 := Scalar.cmpi .slt v737 c0_i32_384
  let v742 : BitVec 32 := Scalar.extui v741
  let v743 : BitVec 32 := Scalar.subi v740 v742
  let c2_i32_382 : BitVec 32 := 2#32
  let c0_i32_385 : BitVec 32 := 0#32
  let v744 : BitVec 1 := Scalar.cmpi .sgt c2_i32_382 c0_i32_385
  let v745 : BitVec 32 := Scalar.extui v744
  let c0_i32_386 : BitVec 32 := 0#32
  let v746 : BitVec 1 := Scalar.cmpi .slt c2_i32_382 c0_i32_386
  let v747 : BitVec 32 := Scalar.extui v746
  let v748 : BitVec 32 := Scalar.subi v745 v747
  let v749 : BitVec 1 := Scalar.cmpi .ne v743 v748
  let v750 : BitVec 32 := Scalar.remsi v737 c2_i32_382
  let c0_i32_387 : BitVec 32 := 0#32
  let v751 : BitVec 1 := Scalar.cmpi .ne v750 c0_i32_387
  let v752 : BitVec 1 := Scalar.andi v749 v751
  let v738 : BitVec 32 := Scalar.divsi v737 c2_i32_382
  let c1_i32_388 : BitVec 32 := 1#32
  let v753 : BitVec 32 := Scalar.subi v738 c1_i32_388
  let v754 : BitVec 32 := Scalar.select v752 v753 v738
  let c512_i32_389 : BitVec 32 := 512#32
  let v755 : BitVec 32 := Scalar.muli v754 c512_i32_389
  let c0_i32_390 : BitVec 32 := 0#32
  let v756 : BitVec 32 := Scalar.addi v755 c0_i32_390
  v756
def k0_mult10 : BitVec 32 :=
  let c0_i32_161 : BitVec 32 := 0#32
  let c16_i32_415 : BitVec 32 := 16#32
  let v801 : BitVec 32 := Scalar.muli c0_i32_161 c16_i32_415
  let c11_i32 : BitVec 32 := 11#32
  let v802 : BitVec 32 := Scalar.addi v801 c11_i32
  let c2_i32_416 : BitVec 32 := 2#32
  let v803 : BitVec 32 := Scalar.subi v802 c2_i32_416
  let c0_i32_417 : BitVec 32 := 0#32
  let v804 : BitVec 32 := Scalar.maxsi v803 c0_i32_417
  let c0_i32_419 : BitVec 32 := 0#32
  let v806 : BitVec 1 := Scalar.cmpi .sgt v804 c0_i32_419
  let v807 : BitVec 32 := Scalar.extui v806
  let c0_i32_420 : BitVec 32 := 0#32
  let v808 : BitVec 1 := Scalar.cmpi .slt v804 c0_i32_420
  let v809 : BitVec 32 := Scalar.extui v808
  let v810 : BitVec 32 := Scalar.subi v807 v809
  let c2_i32_418 : BitVec 32 := 2#32
  let c0_i32_421 : BitVec 32 := 0#32
  let v811 : BitVec 1 := Scalar.cmpi .sgt c2_i32_418 c0_i32_421
  let v812 : BitVec 32 := Scalar.extui v811
  let c0_i32_422 : BitVec 32 := 0#32
  let v813 : BitVec 1 := Scalar.cmpi .slt c2_i32_418 c0_i32_422
  let v814 : BitVec 32 := Scalar.extui v813
  let v815 : BitVec 32 := Scalar.subi v812 v814
  let v816 : BitVec 1 := Scalar.cmpi .ne v810 v815
  let v817 : BitVec 32 := Scalar.remsi v804 c2_i32_418
  let c0_i32_423 : BitVec 32 := 0#32
  let v818 : BitVec 1 := Scalar.cmpi .ne v817 c0_i32_423
  let v819 : BitVec 1 := Scalar.andi v816 v818
  let v805 : BitVec 32 := Scalar.divsi v804 c2_i32_418
  let c1_i32_424 : BitVec 32 := 1#32
  let v820 : BitVec 32 := Scalar.subi v805 c1_i32_424
  let v821 : BitVec 32 := Scalar.select v819 v820 v805
  let c512_i32_425 : BitVec 32 := 512#32
  let v822 : BitVec 32 := Scalar.muli v821 c512_i32_425
  let c256_i32_426 : BitVec 32 := 256#32
  let v823 : BitVec 32 := Scalar.addi v822 c256_i32_426
  v823
def k0_mult11 : BitVec 32 :=
  let c0_i32_161 : BitVec 32 := 0#32
  let c16_i32_451 : BitVec 32 := 16#32
  let v868 : BitVec 32 := Scalar.muli c0_i32_161 c16_i32_451
  let c12_i32 : BitVec 32 := 12#32
  let v869 : BitVec 32 := Scalar.addi v868 c12_i32
  let c2_i32_452 : BitVec 32 := 2#32
  let v870 : BitVec 32 := Scalar.subi v869 c2_i32_452
  let c0_i32_453 : BitVec 32 := 0#32
  let v871 : BitVec 32 := Scalar.maxsi v870 c0_i32_453
  let c0_i32_455 : BitVec 32 := 0#32
  let v873 : BitVec 1 := Scalar.cmpi .sgt v871 c0_i32_455
  let v874 : BitVec 32 := Scalar.extui v873
  let c0_i32_456 : BitVec 32 := 0#32
  let v875 : BitVec 1 := Scalar.cmpi .slt v871 c0_i32_456
  let v876 : BitVec 32 := Scalar.extui v875
  let v877 : BitVec 32 := Scalar.subi v874 v876
  let c2_i32_454 : BitVec 32 := 2#32
  let c0_i32_457 : BitVec 32 := 0#32
  let v878 : BitVec 1 := Scalar.cmpi .sgt c2_i32_454 c0_i32_457
  let v879 : BitVec 32 := Scalar.extui v878
  let c0_i32_458 : BitVec 32 := 0#32
  let v880 : BitVec 1 := Scalar.cmpi .slt c2_i32_454 c0_i32_458
  let v881 : BitVec 32 := Scalar.extui v880
  let v882 : BitVec 32 := Scalar.subi v879 v881
  let v883 : BitVec 1 := Scalar.cmpi .ne v877 v882
  let v884 : BitVec 32 := Scalar.remsi v871 c2_i32_454
  let c0_i32_459 : BitVec 32 := 0#32
  let v885 : BitVec 1 := Scalar.cmpi .ne v884 c0_i32_459
  let v886 : BitVec 1 := Scalar.andi v883 v885
  let v872 : BitVec 32 := Scalar.divsi v871 c2_i32_454
  let c1_i32_460 : BitVec 32 := 1#32
  let v887 : BitVec 32 := Scalar.subi v872 c1_i32_460
  let v888 : BitVec 32 := Scalar.select v886 v887 v872
  let c512_i32_461 : BitVec 32 := 512#32
  let v889 : BitVec 32 := Scalar.muli v888 c512_i32_461
  let c0_i32_462 : BitVec 32 := 0#32
  let v890 : BitVec 32 := Scalar.addi v889 c0_i32_462
  v890
def k0_mult12 : BitVec 32 :=
  let c0_i32_161 : BitVec 32 := 0#32
  let c16_i32_487 : BitVec 32 := 16#32
  let v935 : BitVec 32 := Scalar.muli c0_i32_161 c16_i32_487
  let c13_i32 : BitVec 32 := 13#32
  let v936 : BitVec 32 := Scalar.addi v935 c13_i32
  let c2_i32_488 : BitVec 32 := 2#32
  let v937 : BitVec 32 := Scalar.subi v936 c2_i32_488
  let c0_i32_489 : BitVec 32 := 0#32
  let v938 : BitVec 32 := Scalar.maxsi v937 c0_i32_489
  let c0_i32_491 : BitVec 32 := 0#32
  let v940 : BitVec 1 := Scalar.cmpi .sgt v938 c0_i32_491
  let v941 : BitVec 32 := Scalar.extui v940
  let c0_i32_492 : BitVec 32 := 0#32
  let v942 : BitVec 1 := Scalar.cmpi .slt v938 c0_i32_492
  let v943 : BitVec 32 := Scalar.extui v942
  let v944 : BitVec 32 := Scalar.subi v941 v943
  let c2_i32_490 : BitVec 32 := 2#32
  let c0_i32_493 : BitVec 32 := 0#32
  let v945 : BitVec 1 := Scalar.cmpi .sgt c2_i32_490 c0_i32_493
  let v946 : BitVec 32 := Scalar.extui v945
  let c0_i32_494 : BitVec 32 := 0#32
  let v947 : BitVec 1 := Scalar.cmpi .slt c2_i32_490 c0_i32_494
  let v948 : BitVec 32 := Scalar.extui v947
  let v949 : BitVec 32 := Scalar.subi v946 v948
  let v950 : BitVec 1 := Scalar.cmpi .ne v944 v949
  let v951 : BitVec 32 := Scalar.remsi v938 c2_i32_490
  let c0_i32_495 : BitVec 32 := 0#32
  let v952 : BitVec 1 := Scalar.cmpi .ne v951 c0_i32_495
  let v953 : BitVec 1 := Scalar.andi v950 v952
  let v939 : BitVec 32 := Scalar.divsi v938 c2_i32_490
  let c1_i32_496 : BitVec 32 := 1#32
  let v954 : BitVec 32 := Scalar.subi v939 c1_i32_496
  let v955 : BitVec 32 := Scalar.select v953 v954 v939
  let c512_i32_497 : BitVec 32 := 512#32
  let v956 : BitVec 32 := Scalar.muli v955 c512_i32_497
  let c256_i32_498 : BitVec 32 := 256#32
  let v957 : BitVec 32 := Scalar.addi v956 c256_i32_498
  v957
def k0_mult13 : BitVec 32 :=
  let c0_i32_161 : BitVec 32 := 0#32
  let c16_i32_523 : BitVec 32 := 16#32
  let v1002 : BitVec 32 := Scalar.muli c0_i32_161 c16_i32_523
  let c14_i32 : BitVec 32 := 14#32
  let v1003 : BitVec 32 := Scalar.addi v1002 c14_i32
  let c2_i32_524 : BitVec 32 := 2#32
  let v1004 : BitVec 32 := Scalar.subi v1003 c2_i32_524
  let c0_i32_525 : BitVec 32 := 0#32
  let v1005 : BitVec 32 := Scalar.maxsi v1004 c0_i32_525
  let c0_i32_527 : BitVec 32 := 0#32
  let v1007 : BitVec 1 := Scalar.cmpi .sgt v1005 c0_i32_527
  let v1008 : BitVec 32 := Scalar.extui v1007
  let c0_i32_528 : BitVec 32 := 0#32
  let v1009 : BitVec 1 := Scalar.cmpi .slt v1005 c0_i32_528
  let v1010 : BitVec 32 := Scalar.extui v1009
  let v1011 : BitVec 32 := Scalar.subi v1008 v1010
  let c2_i32_526 : BitVec 32 := 2#32
  let c0_i32_529 : BitVec 32 := 0#32
  let v1012 : BitVec 1 := Scalar.cmpi .sgt c2_i32_526 c0_i32_529
  let v1013 : BitVec 32 := Scalar.extui v1012
  let c0_i32_530 : BitVec 32 := 0#32
  let v1014 : BitVec 1 := Scalar.cmpi .slt c2_i32_526 c0_i32_530
  let v1015 : BitVec 32 := Scalar.extui v1014
  let v1016 : BitVec 32 := Scalar.subi v1013 v1015
  let v1017 : BitVec 1 := Scalar.cmpi .ne v1011 v1016
  let v1018 : BitVec 32 := Scalar.remsi v1005 c2_i32_526
  let c0_i32_531 : BitVec 32 := 0#32
  let v1019 : BitVec 1 := Scalar.cmpi .ne v1018 c0_i32_531
  let v1020 : BitVec 1 := Scalar.andi v1017 v1019
  let v1006 : BitVec 32 := Scalar.divsi v1005 c2_i32_526
  let c1_i32_532 : BitVec 32 := 1#32
  let v1021 : BitVec 32 := Scalar.subi v1006 c1_i32_532
  let v1022 : BitVec 32 := Scalar.select v1020 v1021 v1006
  let c512_i32_533 : BitVec 32 := 512#32
  let v1023 : BitVec 32 := Scalar.muli v1022 c512_i32_533
  let c0_i32_534 : BitVec 32 := 0#32
  let v1024 : BitVec 32 := Scalar.addi v1023 c0_i32_534
  v1024
def k0_mult14 : BitVec 32 :=
  let c0_i32_161 : BitVec 32 := 0#32
  let c16_i32_559 : BitVec 32 := 16#32
  let v1069 : BitVec 32 := Scalar.muli c0_i32_161 c16_i32_559
  let c15_i32 : BitVec 32 := 15#32
  let v1070 : BitVec 32 := Scalar.addi v1069 c15_i32
  let c2_i32_560 : BitVec 32 := 2#32
  let v1071 : BitVec 32 := Scalar.subi v1070 c2_i32_560
  let c0_i32_561 : BitVec 32 := 0#32
  let v1072 : BitVec 32 := Scalar.maxsi v1071 c0_i32_561
  let c0_i32_563 : BitVec 32 := 0#32
  let v1074 : BitVec 1 := Scalar.cmpi .sgt v1072 c0_i32_563
  let v1075 : BitVec 32 := Scalar.extui v1074
  let c0_i32_564 : BitVec 32 := 0#32
  let v1076 : BitVec 1 := Scalar.cmpi .slt v1072 c0_i32_564
  let v1077 : BitVec 32 := Scalar.extui v1076
  let v1078 : BitVec 32 := Scalar.subi v1075 v1077
  let c2_i32_562 : BitVec 32 := 2#32
  let c0_i32_565 : BitVec 32 := 0#32
  let v1079 : BitVec 1 := Scalar.cmpi .sgt c2_i32_562 c0_i32_565
  let v1080 : BitVec 32 := Scalar.extui v1079
  let c0_i32_566 : BitVec 32 := 0#32
  let v1081 : BitVec 1 := Scalar.cmpi .slt c2_i32_562 c0_i32_566
  let v1082 : BitVec 32 := Scalar.extui v1081
  let v1083 : BitVec 32 := Scalar.subi v1080 v1082
  let v1084 : BitVec 1 := Scalar.cmpi .ne v1078 v1083
  let v1085 : BitVec 32 := Scalar.remsi v1072 c2_i32_562
  let c0_i32_567 : BitVec 32 := 0#32
  let v1086 : BitVec 1 := Scalar.cmpi .ne v1085 c0_i32_567
  let v1087 : BitVec 1 := Scalar.andi v1084 v1086
  let v1073 : BitVec 32 := Scalar.divsi v1072 c2_i32_562
  let c1_i32_568 : BitVec 32 := 1#32
  let v1088 : BitVec 32 := Scalar.subi v1073 c1_i32_568
  let v1089 : BitVec 32 := Scalar.select v1087 v1088 v1073
  let c512_i32_569 : BitVec 32 := 512#32
  let v1090 : BitVec 32 := Scalar.muli v1089 c512_i32_569
  let c256_i32_570 : BitVec 32 := 256#32
  let v1091 : BitVec 32 := Scalar.addi v1090 c256_i32_570
  v1091
def k0_mult15 : BitVec 32 :=
  let c0_i32_161 : BitVec 32 := 0#32
  let c16_i32_595 : BitVec 32 := 16#32
  let v1136 : BitVec 32 := Scalar.muli c0_i32_161 c16_i32_595
  let c16_i32_596 : BitVec 32 := 16#32
  let v1137 : BitVec 32 := Scalar.addi v1136 c16_i32_596
  let c2_i32_597 : BitVec 32 := 2#32
  let v1138 : BitVec 32 := Scalar.subi v1137 c2_i32_597
  let c0_i32_598 : BitVec 32 := 0#32
  let v1139 : BitVec 32 := Scalar.maxsi v1138 c0_i32_598
  let c0_i32_600 : BitVec 32 := 0#32
  let v1141 : BitVec 1 := Scalar.cmpi .sgt v1139 c0_i32_600
  let v1142 : BitVec 32 := Scalar.extui v1141
  let c0_i32_601 : BitVec 32 := 0#32
  let v1143 : BitVec 1 := Scalar.cmpi .slt v1139 c0_i32_601
  let v1144 : BitVec 32 := Scalar.extui v1143
  let v1145 : BitVec 32 := Scalar.subi v1142 v1144
  let c2_i32_599 : BitVec 32 := 2#32
  let c0_i32_602 : BitVec 32 := 0#32
  let v1146 : BitVec 1 := Scalar.cmpi .sgt c2_i32_599 c0_i32_602
  let v1147 : BitVec 32 := Scalar.extui v1146
  let c0_i32_603 : BitVec 32 := 0#32
  let v1148 : BitVec 1 := Scalar.cmpi .slt c2_i32_599 c0_i32_603
  let v1149 : BitVec 32 := Scalar.extui v1148
  let v1150 : BitVec 32 := Scalar.subi v1147 v1149
  let v1151 : BitVec 1 := Scalar.cmpi .ne v1145 v1150
  let v1152 : BitVec 32 := Scalar.remsi v1139 c2_i32_599
  let c0_i32_604 : BitVec 32 := 0#32
  let v1153 : BitVec 1 := Scalar.cmpi .ne v1152 c0_i32_604
  let v1154 : BitVec 1 := Scalar.andi v1151 v1153
  let v1140 : BitVec 32 := Scalar.divsi v1139 c2_i32_599
  let c1_i32_605 : BitVec 32 := 1#32
  let v1155 : BitVec 32 := Scalar.subi v1140 c1_i32_605
  let v1156 : BitVec 32 := Scalar.select v1154 v1155 v1140
  let c512_i32_606 : BitVec 32 := 512#32
  let v1157 : BitVec 32 := Scalar.muli v1156 c512_i32_606
  let c0_i32_607 : BitVec 32 := 0#32
  let v1158 : BitVec 32 := Scalar.addi v1157 c0_i32_607
  v1158
def k0_mult16 : BitVec 32 :=
  let c0_i32_161 : BitVec 32 := 0#32
  let c16_i32_632 : BitVec 32 := 16#32
  let v1203 : BitVec 32 := Scalar.muli c0_i32_161 c16_i32_632
  let c17_i32 : BitVec 32 := 17#32
  let v1204 : BitVec 32 := Scalar.addi v1203 c17_i32
  let c2_i32_633 : BitVec 32 := 2#32
  let v1205 : BitVec 32 := Scalar.subi v1204 c2_i32_633
  let c0_i32_634 : BitVec 32 := 0#32
  let v1206 : BitVec 32 := Scalar.maxsi v1205 c0_i32_634
  let c0_i32_636 : BitVec 32 := 0#32
  let v1208 : BitVec 1 := Scalar.cmpi .sgt v1206 c0_i32_636
  let v1209 : BitVec 32 := Scalar.extui v1208
  let c0_i32_637 : BitVec 32 := 0#32
  let v1210 : BitVec 1 := Scalar.cmpi .slt v1206 c0_i32_637
  let v1211 : BitVec 32 := Scalar.extui v1210
  let v1212 : BitVec 32 := Scalar.subi v1209 v1211
  let c2_i32_635 : BitVec 32 := 2#32
  let c0_i32_638 : BitVec 32 := 0#32
  let v1213 : BitVec 1 := Scalar.cmpi .sgt c2_i32_635 c0_i32_638
  let v1214 : BitVec 32 := Scalar.extui v1213
  let c0_i32_639 : BitVec 32 := 0#32
  let v1215 : BitVec 1 := Scalar.cmpi .slt c2_i32_635 c0_i32_639
  let v1216 : BitVec 32 := Scalar.extui v1215
  let v1217 : BitVec 32 := Scalar.subi v1214 v1216
  let v1218 : BitVec 1 := Scalar.cmpi .ne v1212 v1217
  let v1219 : BitVec 32 := Scalar.remsi v1206 c2_i32_635
  let c0_i32_640 : BitVec 32 := 0#32
  let v1220 : BitVec 1 := Scalar.cmpi .ne v1219 c0_i32_640
  let v1221 : BitVec 1 := Scalar.andi v1218 v1220
  let v1207 : BitVec 32 := Scalar.divsi v1206 c2_i32_635
  let c1_i32_641 : BitVec 32 := 1#32
  let v1222 : BitVec 32 := Scalar.subi v1207 c1_i32_641
  let v1223 : BitVec 32 := Scalar.select v1221 v1222 v1207
  let c512_i32_642 : BitVec 32 := 512#32
  let v1224 : BitVec 32 := Scalar.muli v1223 c512_i32_642
  let c256_i32_643 : BitVec 32 := 256#32
  let v1225 : BitVec 32 := Scalar.addi v1224 c256_i32_643
  v1225
def k0_mult17 : BitVec 32 :=
  let c0_i32_161 : BitVec 32 := 0#32
  let c16_i32_668 : BitVec 32 := 16#32
  let v1270 : BitVec 32 := Scalar.muli c0_i32_161 c16_i32_668
  let c1_i32_669 : BitVec 32 := 1#32
  let v1271 : BitVec 32 := Scalar.addi v1270 c1_i32_669
  let c2_i32_670 : BitVec 32 := 2#32
  let v1272 : BitVec 32 := Scalar.subi v1271 c2_i32_670
  let c0_i32_671 : BitVec 32 := 0#32
  let v1273 : BitVec 32 := Scalar.maxsi v1272 c0_i32_671
  let c0_i32_673 : BitVec 32 := 0#32
  let v1275 : BitVec 1 := Scalar.cmpi .sgt v1273 c0_i32_673
  let v1276 : BitVec 32 := Scalar.extui v1275
  let c0_i32_674 : BitVec 32 := 0#32
  let v1277 : BitVec 1 := Scalar.cmpi .slt v1273 c0_i32_674
  let v1278 : BitVec 32 := Scalar.extui v1277
  let v1279 : BitVec 32 := Scalar.subi v1276 v1278
  let c2_i32_672 : BitVec 32 := 2#32
  let c0_i32_675 : BitVec 32 := 0#32
  let v1280 : BitVec 1 := Scalar.cmpi .sgt c2_i32_672 c0_i32_675
  let v1281 : BitVec 32 := Scalar.extui v1280
  let c0_i32_676 : BitVec 32 := 0#32
  let v1282 : BitVec 1 := Scalar.cmpi .slt c2_i32_672 c0_i32_676
  let v1283 : BitVec 32 := Scalar.extui v1282
  let v1284 : BitVec 32 := Scalar.subi v1281 v1283
  let v1285 : BitVec 1 := Scalar.cmpi .ne v1279 v1284
  let v1286 : BitVec 32 := Scalar.remsi v1273 c2_i32_672
  let c0_i32_677 : BitVec 32 := 0#32
  let v1287 : BitVec 1 := Scalar.cmpi .ne v1286 c0_i32_677
  let v1288 : BitVec 1 := Scalar.andi v1285 v1287
  let v1274 : BitVec 32 := Scalar.divsi v1273 c2_i32_672
  let c1_i32_678 : BitVec 32 := 1#32
  let v1289 : BitVec 32 := Scalar.subi v1274 c1_i32_678
  let v1290 : BitVec 32 := Scalar.select v1288 v1289 v1274
  let c512_i32_679 : BitVec 32 := 512#32
  let v1291 : BitVec 32 := Scalar.muli v1290 c512_i32_679
  let c256_i32_680 : BitVec 32 := 256#32
  let v1292 : BitVec 32 := Scalar.addi v1291 c256_i32_680
  v1292
def k0_mult18 : BitVec 32 :=
  let c0_i32_161 : BitVec 32 := 0#32
  let c16_i32_708 : BitVec 32 := 16#32
  let v1340 : BitVec 32 := Scalar.muli c0_i32_161 c16_i32_708
  let c2_i32_709 : BitVec 32 := 2#32
  let v1341 : BitVec 32 := Scalar.addi v1340 c2_i32_709
  let c2_i32_710 : BitVec 32 := 2#32
  let v1342 : BitVec 32 := Scalar.subi v1341 c2_i32_710
  let c0_i32_711 : BitVec 32 := 0#32
  let v1343 : BitVec 32 := Scalar.maxsi v1342 c0_i32_711
  let c0_i32_713 : BitVec 32 := 0#32
  let v1345 : BitVec 1 := Scalar.cmpi .sgt v1343 c0_i32_713
  let v1346 : BitVec 32 := Scalar.extui v1345
  let c0_i32_714 : BitVec 32 := 0#32
  let v1347 : BitVec 1 := Scalar.cmpi .slt v1343 c0_i32_714
  let v1348 : BitVec 32 := Scalar.extui v1347
  let v1349 : BitVec 32 := Scalar.subi v1346 v1348
  let c2_i32_712 : BitVec 32 := 2#32
  let c0_i32_715 : BitVec 32 := 0#32
  let v1350 : BitVec 1 := Scalar.cmpi .sgt c2_i32_712 c0_i32_715
  let v1351 : BitVec 32 := Scalar.extui v1350
  let c0_i32_716 : BitVec 32 := 0#32
  let v1352 : BitVec 1 := Scalar.cmpi .slt c2_i32_712 c0_i32_716
  let v1353 : BitVec 32 := Scalar.extui v1352
  let v1354 : BitVec 32 := Scalar.subi v1351 v1353
  let v1355 : BitVec 1 := Scalar.cmpi .ne v1349 v1354
  let v1356 : BitVec 32 := Scalar.remsi v1343 c2_i32_712
  let c0_i32_717 : BitVec 32 := 0#32
  let v1357 : BitVec 1 := Scalar.cmpi .ne v1356 c0_i32_717
  let v1358 : BitVec 1 := Scalar.andi v1355 v1357
  let v1344 : BitVec 32 := Scalar.divsi v1343 c2_i32_712
  let c1_i32_718 : BitVec 32 := 1#32
  let v1359 : BitVec 32 := Scalar.subi v1344 c1_i32_718
  let v1360 : BitVec 32 := Scalar.select v1358 v1359 v1344
  let c512_i32_719 : BitVec 32 := 512#32
  let v1361 : BitVec 32 := Scalar.muli v1360 c512_i32_719
  let c0_i32_720 : BitVec 32 := 0#32
  let v1362 : BitVec 32 := Scalar.addi v1361 c0_i32_720
  v1362
def k0_mult19 : BitVec 32 :=
  let c0_i32_161 : BitVec 32 := 0#32
  let c16_i32_746 : BitVec 32 := 16#32
  let v1407 : BitVec 32 := Scalar.muli c0_i32_161 c16_i32_746
  let c3_i32_747 : BitVec 32 := 3#32
  let v1408 : BitVec 32 := Scalar.addi v1407 c3_i32_747
  let c2_i32_748 : BitVec 32 := 2#32
  let v1409 : BitVec 32 := Scalar.subi v1408 c2_i32_748
  let c0_i32_749 : BitVec 32 := 0#32
  let v1410 : BitVec 32 := Scalar.maxsi v1409 c0_i32_749
  let c0_i32_751 : BitVec 32 := 0#32
  let v1412 : BitVec 1 := Scalar.cmpi .sgt v1410 c0_i32_751
  let v1413 : BitVec 32 := Scalar.extui v1412
  let c0_i32_752 : BitVec 32 := 0#32
  let v1414 : BitVec 1 := Scalar.cmpi .slt v1410 c0_i32_752
  let v1415 : BitVec 32 := Scalar.extui v1414
  let v1416 : BitVec 32 := Scalar.subi v1413 v1415
  let c2_i32_750 : BitVec 32 := 2#32
  let c0_i32_753 : BitVec 32 := 0#32
  let v1417 : BitVec 1 := Scalar.cmpi .sgt c2_i32_750 c0_i32_753
  let v1418 : BitVec 32 := Scalar.extui v1417
  let c0_i32_754 : BitVec 32 := 0#32
  let v1419 : BitVec 1 := Scalar.cmpi .slt c2_i32_750 c0_i32_754
  let v1420 : BitVec 32 := Scalar.extui v1419
  let v1421 : BitVec 32 := Scalar.subi v1418 v1420
  let v1422 : BitVec 1 := Scalar.cmpi .ne v1416 v1421
  let v1423 : BitVec 32 := Scalar.remsi v1410 c2_i32_750
  let c0_i32_755 : BitVec 32 := 0#32
  let v1424 : BitVec 1 := Scalar.cmpi .ne v1423 c0_i32_755
  let v1425 : BitVec 1 := Scalar.andi v1422 v1424
  let v1411 : BitVec 32 := Scalar.divsi v1410 c2_i32_750
  let c1_i32_756 : BitVec 32 := 1#32
  let v1426 : BitVec 32 := Scalar.subi v1411 c1_i32_756
  let v1427 : BitVec 32 := Scalar.select v1425 v1426 v1411
  let c512_i32_757 : BitVec 32 := 512#32
  let v1428 : BitVec 32 := Scalar.muli v1427 c512_i32_757
  let c256_i32_758 : BitVec 32 := 256#32
  let v1429 : BitVec 32 := Scalar.addi v1428 c256_i32_758
  v1429
def k0_mult20 : BitVec 32 :=
  let c0_i32_161 : BitVec 32 := 0#32
  let c16_i32_784 : BitVec 32 := 16#32
  let v1480 : BitVec 32 := Scalar.muli c0_i32_161 c16_i32_784
  let c4_i32_785 : BitVec 32 := 4#32
  let v1481 : BitVec 32 := Scalar.addi v1480 c4_i32_785
  let c2_i32_786 : BitVec 32 := 2#32
  let v1482 : BitVec 32 := Scalar.subi v1481 c2_i32_786
  let c0_i32_787 : BitVec 32 := 0#32
  let v1483 : BitVec 32 := Scalar.maxsi v1482 c0_i32_787
  let c0_i32_789 : BitVec 32 := 0#32
  let v1485 : BitVec 1 := Scalar.cmpi .sgt v1483 c0_i32_789
  let v1486 : BitVec 32 := Scalar.extui v1485
  let c0_i32_790 : BitVec 32 := 0#32
  let v1487 : BitVec 1 := Scalar.cmpi .slt v1483 c0_i32_790
  let v1488 : BitVec 32 := Scalar.extui v1487
  let v1489 : BitVec 32 := Scalar.subi v1486 v1488
  let c2_i32_788 : BitVec 32 := 2#32
  let c0_i32_791 : BitVec 32 := 0#32
  let v1490 : BitVec 1 := Scalar.cmpi .sgt c2_i32_788 c0_i32_791
  let v1491 : BitVec 32 := Scalar.extui v1490
  let c0_i32_792 : BitVec 32 := 0#32
  let v1492 : BitVec 1 := Scalar.cmpi .slt c2_i32_788 c0_i32_792
  let v1493 : BitVec 32 := Scalar.extui v1492
  let v1494 : BitVec 32 := Scalar.subi v1491 v1493
  let v1495 : BitVec 1 := Scalar.cmpi .ne v1489 v1494
  let v1496 : BitVec 32 := Scalar.remsi v1483 c2_i32_788
  let c0_i32_793 : BitVec 32 := 0#32
  let v1497 : BitVec 1 := Scalar.cmpi .ne v1496 c0_i32_793
  let v1498 : BitVec 1 := Scalar.andi v1495 v1497
  let v1484 : BitVec 32 := Scalar.divsi v1483 c2_i32_788
  let c1_i32_794 : BitVec 32 := 1#32
  let v1499 : BitVec 32 := Scalar.subi v1484 c1_i32_794
  let v1500 : BitVec 32 := Scalar.select v1498 v1499 v1484
  let c512_i32_795 : BitVec 32 := 512#32
  let v1501 : BitVec 32 := Scalar.muli v1500 c512_i32_795
  let c0_i32_796 : BitVec 32 := 0#32
  let v1502 : BitVec 32 := Scalar.addi v1501 c0_i32_796
  v1502
def k0_mult21 : BitVec 32 :=
  let c0_i32_161 : BitVec 32 := 0#32
  let c16_i32_822 : BitVec 32 := 16#32
  let v1553 : BitVec 32 := Scalar.muli c0_i32_161 c16_i32_822
  let c5_i32_823 : BitVec 32 := 5#32
  let v1554 : BitVec 32 := Scalar.addi v1553 c5_i32_823
  let c2_i32_824 : BitVec 32 := 2#32
  let v1555 : BitVec 32 := Scalar.subi v1554 c2_i32_824
  let c0_i32_825 : BitVec 32 := 0#32
  let v1556 : BitVec 32 := Scalar.maxsi v1555 c0_i32_825
  let c0_i32_827 : BitVec 32 := 0#32
  let v1558 : BitVec 1 := Scalar.cmpi .sgt v1556 c0_i32_827
  let v1559 : BitVec 32 := Scalar.extui v1558
  let c0_i32_828 : BitVec 32 := 0#32
  let v1560 : BitVec 1 := Scalar.cmpi .slt v1556 c0_i32_828
  let v1561 : BitVec 32 := Scalar.extui v1560
  let v1562 : BitVec 32 := Scalar.subi v1559 v1561
  let c2_i32_826 : BitVec 32 := 2#32
  let c0_i32_829 : BitVec 32 := 0#32
  let v1563 : BitVec 1 := Scalar.cmpi .sgt c2_i32_826 c0_i32_829
  let v1564 : BitVec 32 := Scalar.extui v1563
  let c0_i32_830 : BitVec 32 := 0#32
  let v1565 : BitVec 1 := Scalar.cmpi .slt c2_i32_826 c0_i32_830
  let v1566 : BitVec 32 := Scalar.extui v1565
  let v1567 : BitVec 32 := Scalar.subi v1564 v1566
  let v1568 : BitVec 1 := Scalar.cmpi .ne v1562 v1567
  let v1569 : BitVec 32 := Scalar.remsi v1556 c2_i32_826
  let c0_i32_831 : BitVec 32 := 0#32
  let v1570 : BitVec 1 := Scalar.cmpi .ne v1569 c0_i32_831
  let v1571 : BitVec 1 := Scalar.andi v1568 v1570
  let v1557 : BitVec 32 := Scalar.divsi v1556 c2_i32_826
  let c1_i32_832 : BitVec 32 := 1#32
  let v1572 : BitVec 32 := Scalar.subi v1557 c1_i32_832
  let v1573 : BitVec 32 := Scalar.select v1571 v1572 v1557
  let c512_i32_833 : BitVec 32 := 512#32
  let v1574 : BitVec 32 := Scalar.muli v1573 c512_i32_833
  let c256_i32_834 : BitVec 32 := 256#32
  let v1575 : BitVec 32 := Scalar.addi v1574 c256_i32_834
  v1575
def k0_mult22 : BitVec 32 :=
  let c0_i32_161 : BitVec 32 := 0#32
  let c16_i32_860 : BitVec 32 := 16#32
  let v1626 : BitVec 32 := Scalar.muli c0_i32_161 c16_i32_860
  let c6_i32_861 : BitVec 32 := 6#32
  let v1627 : BitVec 32 := Scalar.addi v1626 c6_i32_861
  let c2_i32_862 : BitVec 32 := 2#32
  let v1628 : BitVec 32 := Scalar.subi v1627 c2_i32_862
  let c0_i32_863 : BitVec 32 := 0#32
  let v1629 : BitVec 32 := Scalar.maxsi v1628 c0_i32_863
  let c0_i32_865 : BitVec 32 := 0#32
  let v1631 : BitVec 1 := Scalar.cmpi .sgt v1629 c0_i32_865
  let v1632 : BitVec 32 := Scalar.extui v1631
  let c0_i32_866 : BitVec 32 := 0#32
  let v1633 : BitVec 1 := Scalar.cmpi .slt v1629 c0_i32_866
  let v1634 : BitVec 32 := Scalar.extui v1633
  let v1635 : BitVec 32 := Scalar.subi v1632 v1634
  let c2_i32_864 : BitVec 32 := 2#32
  let c0_i32_867 : BitVec 32 := 0#32
  let v1636 : BitVec 1 := Scalar.cmpi .sgt c2_i32_864 c0_i32_867
  let v1637 : BitVec 32 := Scalar.extui v1636
  let c0_i32_868 : BitVec 32 := 0#32
  let v1638 : BitVec 1 := Scalar.cmpi .slt c2_i32_864 c0_i32_868
  let v1639 : BitVec 32 := Scalar.extui v1638
  let v1640 : BitVec 32 := Scalar.subi v1637 v1639
  let v1641 : BitVec 1 := Scalar.cmpi .ne v1635 v1640
  let v1642 : BitVec 32 := Scalar.remsi v1629 c2_i32_864
  let c0_i32_869 : BitVec 32 := 0#32
  let v1643 : BitVec 1 := Scalar.cmpi .ne v1642 c0_i32_869
  let v1644 : BitVec 1 := Scalar.andi v1641 v1643
  let v1630 : BitVec 32 := Scalar.divsi v1629 c2_i32_864
  let c1_i32_870 : BitVec 32 := 1#32
  let v1645 : BitVec 32 := Scalar.subi v1630 c1_i32_870
  let v1646 : BitVec 32 := Scalar.select v1644 v1645 v1630
  let c512_i32_871 : BitVec 32 := 512#32
  let v1647 : BitVec 32 := Scalar.muli v1646 c512_i32_871
  let c0_i32_872 : BitVec 32 := 0#32
  let v1648 : BitVec 32 := Scalar.addi v1647 c0_i32_872
  v1648
def k0_mult23 : BitVec 32 :=
  let c0_i32_161 : BitVec 32 := 0#32
  let c16_i32_898 : BitVec 32 := 16#32
  let v1699 : BitVec 32 := Scalar.muli c0_i32_161 c16_i32_898
  let c7_i32_899 : BitVec 32 := 7#32
  let v1700 : BitVec 32 := Scalar.addi v1699 c7_i32_899
  let c2_i32_900 : BitVec 32 := 2#32
  let v1701 : BitVec 32 := Scalar.subi v1700 c2_i32_900
  let c0_i32_901 : BitVec 32 := 0#32
  let v1702 : BitVec 32 := Scalar.maxsi v1701 c0_i32_901
  let c0_i32_903 : BitVec 32 := 0#32
  let v1704 : BitVec 1 := Scalar.cmpi .sgt v1702 c0_i32_903
  let v1705 : BitVec 32 := Scalar.extui v1704
  let c0_i32_904 : BitVec 32 := 0#32
  let v1706 : BitVec 1 := Scalar.cmpi .slt v1702 c0_i32_904
  let v1707 : BitVec 32 := Scalar.extui v1706
  let v1708 : BitVec 32 := Scalar.subi v1705 v1707
  let c2_i32_902 : BitVec 32 := 2#32
  let c0_i32_905 : BitVec 32 := 0#32
  let v1709 : BitVec 1 := Scalar.cmpi .sgt c2_i32_902 c0_i32_905
  let v1710 : BitVec 32 := Scalar.extui v1709
  let c0_i32_906 : BitVec 32 := 0#32
  let v1711 : BitVec 1 := Scalar.cmpi .slt c2_i32_902 c0_i32_906
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_902
  let c0_i32_907 : BitVec 32 := 0#32
  let v1716 : BitVec 1 := Scalar.cmpi .ne v1715 c0_i32_907
  let v1717 : BitVec 1 := Scalar.andi v1714 v1716
  let v1703 : BitVec 32 := Scalar.divsi v1702 c2_i32_902
  let c1_i32_908 : BitVec 32 := 1#32
  let v1718 : BitVec 32 := Scalar.subi v1703 c1_i32_908
  let v1719 : BitVec 32 := Scalar.select v1717 v1718 v1703
  let c512_i32_909 : BitVec 32 := 512#32
  let v1720 : BitVec 32 := Scalar.muli v1719 c512_i32_909
  let c256_i32_910 : BitVec 32 := 256#32
  let v1721 : BitVec 32 := Scalar.addi v1720 c256_i32_910
  v1721
def k0_mult24 : BitVec 32 :=
  let c0_i32_161 : BitVec 32 := 0#32
  let c16_i32_936 : BitVec 32 := 16#32
  let v1772 : BitVec 32 := Scalar.muli c0_i32_161 c16_i32_936
  let c8_i32_937 : BitVec 32 := 8#32
  let v1773 : BitVec 32 := Scalar.addi v1772 c8_i32_937
  let c2_i32_938 : BitVec 32 := 2#32
  let v1774 : BitVec 32 := Scalar.subi v1773 c2_i32_938
  let c0_i32_939 : BitVec 32 := 0#32
  let v1775 : BitVec 32 := Scalar.maxsi v1774 c0_i32_939
  let c0_i32_941 : BitVec 32 := 0#32
  let v1777 : BitVec 1 := Scalar.cmpi .sgt v1775 c0_i32_941
  let v1778 : BitVec 32 := Scalar.extui v1777
  let c0_i32_942 : BitVec 32 := 0#32
  let v1779 : BitVec 1 := Scalar.cmpi .slt v1775 c0_i32_942
  let v1780 : BitVec 32 := Scalar.extui v1779
  let v1781 : BitVec 32 := Scalar.subi v1778 v1780
  let c2_i32_940 : BitVec 32 := 2#32
  let c0_i32_943 : BitVec 32 := 0#32
  let v1782 : BitVec 1 := Scalar.cmpi .sgt c2_i32_940 c0_i32_943
  let v1783 : BitVec 32 := Scalar.extui v1782
  let c0_i32_944 : BitVec 32 := 0#32
  let v1784 : BitVec 1 := Scalar.cmpi .slt c2_i32_940 c0_i32_944
  let v1785 : BitVec 32 := Scalar.extui v1784
  let v1786 : BitVec 32 := Scalar.subi v1783 v1785
  let v1787 : BitVec 1 := Scalar.cmpi .ne v1781 v1786
  let v1788 : BitVec 32 := Scalar.remsi v1775 c2_i32_940
  let c0_i32_945 : BitVec 32 := 0#32
  let v1789 : BitVec 1 := Scalar.cmpi .ne v1788 c0_i32_945
  let v1790 : BitVec 1 := Scalar.andi v1787 v1789
  let v1776 : BitVec 32 := Scalar.divsi v1775 c2_i32_940
  let c1_i32_946 : BitVec 32 := 1#32
  let v1791 : BitVec 32 := Scalar.subi v1776 c1_i32_946
  let v1792 : BitVec 32 := Scalar.select v1790 v1791 v1776
  let c512_i32_947 : BitVec 32 := 512#32
  let v1793 : BitVec 32 := Scalar.muli v1792 c512_i32_947
  let c0_i32_948 : BitVec 32 := 0#32
  let v1794 : BitVec 32 := Scalar.addi v1793 c0_i32_948
  v1794
def k0_mult25 : BitVec 32 :=
  let c0_i32_161 : BitVec 32 := 0#32
  let c16_i32_974 : BitVec 32 := 16#32
  let v1845 : BitVec 32 := Scalar.muli c0_i32_161 c16_i32_974
  let c9_i32_975 : BitVec 32 := 9#32
  let v1846 : BitVec 32 := Scalar.addi v1845 c9_i32_975
  let c2_i32_976 : BitVec 32 := 2#32
  let v1847 : BitVec 32 := Scalar.subi v1846 c2_i32_976
  let c0_i32_977 : BitVec 32 := 0#32
  let v1848 : BitVec 32 := Scalar.maxsi v1847 c0_i32_977
  let c0_i32_979 : BitVec 32 := 0#32
  let v1850 : BitVec 1 := Scalar.cmpi .sgt v1848 c0_i32_979
  let v1851 : BitVec 32 := Scalar.extui v1850
  let c0_i32_980 : BitVec 32 := 0#32
  let v1852 : BitVec 1 := Scalar.cmpi .slt v1848 c0_i32_980
  let v1853 : BitVec 32 := Scalar.extui v1852
  let v1854 : BitVec 32 := Scalar.subi v1851 v1853
  let c2_i32_978 : BitVec 32 := 2#32
  let c0_i32_981 : BitVec 32 := 0#32
  let v1855 : BitVec 1 := Scalar.cmpi .sgt c2_i32_978 c0_i32_981
  let v1856 : BitVec 32 := Scalar.extui v1855
  let c0_i32_982 : BitVec 32 := 0#32
  let v1857 : BitVec 1 := Scalar.cmpi .slt c2_i32_978 c0_i32_982
  let v1858 : BitVec 32 := Scalar.extui v1857
  let v1859 : BitVec 32 := Scalar.subi v1856 v1858
  let v1860 : BitVec 1 := Scalar.cmpi .ne v1854 v1859
  let v1861 : BitVec 32 := Scalar.remsi v1848 c2_i32_978
  let c0_i32_983 : BitVec 32 := 0#32
  let v1862 : BitVec 1 := Scalar.cmpi .ne v1861 c0_i32_983
  let v1863 : BitVec 1 := Scalar.andi v1860 v1862
  let v1849 : BitVec 32 := Scalar.divsi v1848 c2_i32_978
  let c1_i32_984 : BitVec 32 := 1#32
  let v1864 : BitVec 32 := Scalar.subi v1849 c1_i32_984
  let v1865 : BitVec 32 := Scalar.select v1863 v1864 v1849
  let c512_i32_985 : BitVec 32 := 512#32
  let v1866 : BitVec 32 := Scalar.muli v1865 c512_i32_985
  let c256_i32_986 : BitVec 32 := 256#32
  let v1867 : BitVec 32 := Scalar.addi v1866 c256_i32_986
  v1867
def k0_mult26 : BitVec 32 :=
  let c0_i32_161 : BitVec 32 := 0#32
  let c16_i32_1012 : BitVec 32 := 16#32
  let v1918 : BitVec 32 := Scalar.muli c0_i32_161 c16_i32_1012
  let c10_i32_1013 : BitVec 32 := 10#32
  let v1919 : BitVec 32 := Scalar.addi v1918 c10_i32_1013
  let c2_i32_1014 : BitVec 32 := 2#32
  let v1920 : BitVec 32 := Scalar.subi v1919 c2_i32_1014
  let c0_i32_1015 : BitVec 32 := 0#32
  let v1921 : BitVec 32 := Scalar.maxsi v1920 c0_i32_1015
  let c0_i32_1017 : BitVec 32 := 0#32
  let v1923 : BitVec 1 := Scalar.cmpi .sgt v1921 c0_i32_1017
  let v1924 : BitVec 32 := Scalar.extui v1923
  let c0_i32_1018 : BitVec 32 := 0#32
  let v1925 : BitVec 1 := Scalar.cmpi .slt v1921 c0_i32_1018
  let v1926 : BitVec 32 := Scalar.extui v1925
  let v1927 : BitVec 32 := Scalar.subi v1924 v1926
  let c2_i32_1016 : BitVec 32 := 2#32
  let c0_i32_1019 : BitVec 32 := 0#32
  let v1928 : BitVec 1 := Scalar.cmpi .sgt c2_i32_1016 c0_i32_1019
  let v1929 : BitVec 32 := Scalar.extui v1928
  let c0_i32_1020 : BitVec 32 := 0#32
  let v1930 : BitVec 1 := Scalar.cmpi .slt c2_i32_1016 c0_i32_1020
  let v1931 : BitVec 32 := Scalar.extui v1930
  let v1932 : BitVec 32 := Scalar.subi v1929 v1931
  let v1933 : BitVec 1 := Scalar.cmpi .ne v1927 v1932
  let v1934 : BitVec 32 := Scalar.remsi v1921 c2_i32_1016
  let c0_i32_1021 : BitVec 32 := 0#32
  let v1935 : BitVec 1 := Scalar.cmpi .ne v1934 c0_i32_1021
  let v1936 : BitVec 1 := Scalar.andi v1933 v1935
  let v1922 : BitVec 32 := Scalar.divsi v1921 c2_i32_1016
  let c1_i32_1022 : BitVec 32 := 1#32
  let v1937 : BitVec 32 := Scalar.subi v1922 c1_i32_1022
  let v1938 : BitVec 32 := Scalar.select v1936 v1937 v1922
  let c512_i32_1023 : BitVec 32 := 512#32
  let v1939 : BitVec 32 := Scalar.muli v1938 c512_i32_1023
  let c0_i32_1024 : BitVec 32 := 0#32
  let v1940 : BitVec 32 := Scalar.addi v1939 c0_i32_1024
  v1940
def k0_mult27 : BitVec 32 :=
  let c0_i32_161 : BitVec 32 := 0#32
  let c16_i32_1050 : BitVec 32 := 16#32
  let v1991 : BitVec 32 := Scalar.muli c0_i32_161 c16_i32_1050
  let c11_i32_1051 : BitVec 32 := 11#32
  let v1992 : BitVec 32 := Scalar.addi v1991 c11_i32_1051
  let c2_i32_1052 : BitVec 32 := 2#32
  let v1993 : BitVec 32 := Scalar.subi v1992 c2_i32_1052
  let c0_i32_1053 : BitVec 32 := 0#32
  let v1994 : BitVec 32 := Scalar.maxsi v1993 c0_i32_1053
  let c0_i32_1055 : BitVec 32 := 0#32
  let v1996 : BitVec 1 := Scalar.cmpi .sgt v1994 c0_i32_1055
  let v1997 : BitVec 32 := Scalar.extui v1996
  let c0_i32_1056 : BitVec 32 := 0#32
  let v1998 : BitVec 1 := Scalar.cmpi .slt v1994 c0_i32_1056
  let v1999 : BitVec 32 := Scalar.extui v1998
  let v2000 : BitVec 32 := Scalar.subi v1997 v1999
  let c2_i32_1054 : BitVec 32 := 2#32
  let c0_i32_1057 : BitVec 32 := 0#32
  let v2001 : BitVec 1 := Scalar.cmpi .sgt c2_i32_1054 c0_i32_1057
  let v2002 : BitVec 32 := Scalar.extui v2001
  let c0_i32_1058 : BitVec 32 := 0#32
  let v2003 : BitVec 1 := Scalar.cmpi .slt c2_i32_1054 c0_i32_1058
  let v2004 : BitVec 32 := Scalar.extui v2003
  let v2005 : BitVec 32 := Scalar.subi v2002 v2004
  let v2006 : BitVec 1 := Scalar.cmpi .ne v2000 v2005
  let v2007 : BitVec 32 := Scalar.remsi v1994 c2_i32_1054
  let c0_i32_1059 : BitVec 32 := 0#32
  let v2008 : BitVec 1 := Scalar.cmpi .ne v2007 c0_i32_1059
  let v2009 : BitVec 1 := Scalar.andi v2006 v2008
  let v1995 : BitVec 32 := Scalar.divsi v1994 c2_i32_1054
  let c1_i32_1060 : BitVec 32 := 1#32
  let v2010 : BitVec 32 := Scalar.subi v1995 c1_i32_1060
  let v2011 : BitVec 32 := Scalar.select v2009 v2010 v1995
  let c512_i32_1061 : BitVec 32 := 512#32
  let v2012 : BitVec 32 := Scalar.muli v2011 c512_i32_1061
  let c256_i32_1062 : BitVec 32 := 256#32
  let v2013 : BitVec 32 := Scalar.addi v2012 c256_i32_1062
  v2013
def k0_mult28 : BitVec 32 :=
  let c0_i32_161 : BitVec 32 := 0#32
  let c16_i32_1088 : BitVec 32 := 16#32
  let v2064 : BitVec 32 := Scalar.muli c0_i32_161 c16_i32_1088
  let c12_i32_1089 : BitVec 32 := 12#32
  let v2065 : BitVec 32 := Scalar.addi v2064 c12_i32_1089
  let c2_i32_1090 : BitVec 32 := 2#32
  let v2066 : BitVec 32 := Scalar.subi v2065 c2_i32_1090
  let c0_i32_1091 : BitVec 32 := 0#32
  let v2067 : BitVec 32 := Scalar.maxsi v2066 c0_i32_1091
  let c0_i32_1093 : BitVec 32 := 0#32
  let v2069 : BitVec 1 := Scalar.cmpi .sgt v2067 c0_i32_1093
  let v2070 : BitVec 32 := Scalar.extui v2069
  let c0_i32_1094 : BitVec 32 := 0#32
  let v2071 : BitVec 1 := Scalar.cmpi .slt v2067 c0_i32_1094
  let v2072 : BitVec 32 := Scalar.extui v2071
  let v2073 : BitVec 32 := Scalar.subi v2070 v2072
  let c2_i32_1092 : BitVec 32 := 2#32
  let c0_i32_1095 : BitVec 32 := 0#32
  let v2074 : BitVec 1 := Scalar.cmpi .sgt c2_i32_1092 c0_i32_1095
  let v2075 : BitVec 32 := Scalar.extui v2074
  let c0_i32_1096 : BitVec 32 := 0#32
  let v2076 : BitVec 1 := Scalar.cmpi .slt c2_i32_1092 c0_i32_1096
  let v2077 : BitVec 32 := Scalar.extui v2076
  let v2078 : BitVec 32 := Scalar.subi v2075 v2077
  let v2079 : BitVec 1 := Scalar.cmpi .ne v2073 v2078
  let v2080 : BitVec 32 := Scalar.remsi v2067 c2_i32_1092
  let c0_i32_1097 : BitVec 32 := 0#32
  let v2081 : BitVec 1 := Scalar.cmpi .ne v2080 c0_i32_1097
  let v2082 : BitVec 1 := Scalar.andi v2079 v2081
  let v2068 : BitVec 32 := Scalar.divsi v2067 c2_i32_1092
  let c1_i32_1098 : BitVec 32 := 1#32
  let v2083 : BitVec 32 := Scalar.subi v2068 c1_i32_1098
  let v2084 : BitVec 32 := Scalar.select v2082 v2083 v2068
  let c512_i32_1099 : BitVec 32 := 512#32
  let v2085 : BitVec 32 := Scalar.muli v2084 c512_i32_1099
  let c0_i32_1100 : BitVec 32 := 0#32
  let v2086 : BitVec 32 := Scalar.addi v2085 c0_i32_1100
  v2086
def k0_mult29 : BitVec 32 :=
  let c0_i32_161 : BitVec 32 := 0#32
  let c16_i32_1126 : BitVec 32 := 16#32
  let v2137 : BitVec 32 := Scalar.muli c0_i32_161 c16_i32_1126
  let c13_i32_1127 : BitVec 32 := 13#32
  let v2138 : BitVec 32 := Scalar.addi v2137 c13_i32_1127
  let c2_i32_1128 : BitVec 32 := 2#32
  let v2139 : BitVec 32 := Scalar.subi v2138 c2_i32_1128
  let c0_i32_1129 : BitVec 32 := 0#32
  let v2140 : BitVec 32 := Scalar.maxsi v2139 c0_i32_1129
  let c0_i32_1131 : BitVec 32 := 0#32
  let v2142 : BitVec 1 := Scalar.cmpi .sgt v2140 c0_i32_1131
  let v2143 : BitVec 32 := Scalar.extui v2142
  let c0_i32_1132 : BitVec 32 := 0#32
  let v2144 : BitVec 1 := Scalar.cmpi .slt v2140 c0_i32_1132
  let v2145 : BitVec 32 := Scalar.extui v2144
  let v2146 : BitVec 32 := Scalar.subi v2143 v2145
  let c2_i32_1130 : BitVec 32 := 2#32
  let c0_i32_1133 : BitVec 32 := 0#32
  let v2147 : BitVec 1 := Scalar.cmpi .sgt c2_i32_1130 c0_i32_1133
  let v2148 : BitVec 32 := Scalar.extui v2147
  let c0_i32_1134 : BitVec 32 := 0#32
  let v2149 : BitVec 1 := Scalar.cmpi .slt c2_i32_1130 c0_i32_1134
  let v2150 : BitVec 32 := Scalar.extui v2149
  let v2151 : BitVec 32 := Scalar.subi v2148 v2150
  let v2152 : BitVec 1 := Scalar.cmpi .ne v2146 v2151
  let v2153 : BitVec 32 := Scalar.remsi v2140 c2_i32_1130
  let c0_i32_1135 : BitVec 32 := 0#32
  let v2154 : BitVec 1 := Scalar.cmpi .ne v2153 c0_i32_1135
  let v2155 : BitVec 1 := Scalar.andi v2152 v2154
  let v2141 : BitVec 32 := Scalar.divsi v2140 c2_i32_1130
  let c1_i32_1136 : BitVec 32 := 1#32
  let v2156 : BitVec 32 := Scalar.subi v2141 c1_i32_1136
  let v2157 : BitVec 32 := Scalar.select v2155 v2156 v2141
  let c512_i32_1137 : BitVec 32 := 512#32
  let v2158 : BitVec 32 := Scalar.muli v2157 c512_i32_1137
  let c256_i32_1138 : BitVec 32 := 256#32
  let v2159 : BitVec 32 := Scalar.addi v2158 c256_i32_1138
  v2159
def k0_mult30 : BitVec 32 :=
  let c0_i32_161 : BitVec 32 := 0#32
  let c16_i32_1164 : BitVec 32 := 16#32
  let v2210 : BitVec 32 := Scalar.muli c0_i32_161 c16_i32_1164
  let c14_i32_1165 : BitVec 32 := 14#32
  let v2211 : BitVec 32 := Scalar.addi v2210 c14_i32_1165
  let c2_i32_1166 : BitVec 32 := 2#32
  let v2212 : BitVec 32 := Scalar.subi v2211 c2_i32_1166
  let c0_i32_1167 : BitVec 32 := 0#32
  let v2213 : BitVec 32 := Scalar.maxsi v2212 c0_i32_1167
  let c0_i32_1169 : BitVec 32 := 0#32
  let v2215 : BitVec 1 := Scalar.cmpi .sgt v2213 c0_i32_1169
  let v2216 : BitVec 32 := Scalar.extui v2215
  let c0_i32_1170 : BitVec 32 := 0#32
  let v2217 : BitVec 1 := Scalar.cmpi .slt v2213 c0_i32_1170
  let v2218 : BitVec 32 := Scalar.extui v2217
  let v2219 : BitVec 32 := Scalar.subi v2216 v2218
  let c2_i32_1168 : BitVec 32 := 2#32
  let c0_i32_1171 : BitVec 32 := 0#32
  let v2220 : BitVec 1 := Scalar.cmpi .sgt c2_i32_1168 c0_i32_1171
  let v2221 : BitVec 32 := Scalar.extui v2220
  let c0_i32_1172 : BitVec 32 := 0#32
  let v2222 : BitVec 1 := Scalar.cmpi .slt c2_i32_1168 c0_i32_1172
  let v2223 : BitVec 32 := Scalar.extui v2222
  let v2224 : BitVec 32 := Scalar.subi v2221 v2223
  let v2225 : BitVec 1 := Scalar.cmpi .ne v2219 v2224
  let v2226 : BitVec 32 := Scalar.remsi v2213 c2_i32_1168
  let c0_i32_1173 : BitVec 32 := 0#32
  let v2227 : BitVec 1 := Scalar.cmpi .ne v2226 c0_i32_1173
  let v2228 : BitVec 1 := Scalar.andi v2225 v2227
  let v2214 : BitVec 32 := Scalar.divsi v2213 c2_i32_1168
  let c1_i32_1174 : BitVec 32 := 1#32
  let v2229 : BitVec 32 := Scalar.subi v2214 c1_i32_1174
  let v2230 : BitVec 32 := Scalar.select v2228 v2229 v2214
  let c512_i32_1175 : BitVec 32 := 512#32
  let v2231 : BitVec 32 := Scalar.muli v2230 c512_i32_1175
  let c0_i32_1176 : BitVec 32 := 0#32
  let v2232 : BitVec 32 := Scalar.addi v2231 c0_i32_1176
  v2232
def k0_mult31 : BitVec 32 :=
  let c0_i32_161 : BitVec 32 := 0#32
  let c16_i32_1202 : BitVec 32 := 16#32
  let v2283 : BitVec 32 := Scalar.muli c0_i32_161 c16_i32_1202
  let c15_i32_1203 : BitVec 32 := 15#32
  let v2284 : BitVec 32 := Scalar.addi v2283 c15_i32_1203
  let c2_i32_1204 : BitVec 32 := 2#32
  let v2285 : BitVec 32 := Scalar.subi v2284 c2_i32_1204
  let c0_i32_1205 : BitVec 32 := 0#32
  let v2286 : BitVec 32 := Scalar.maxsi v2285 c0_i32_1205
  let c0_i32_1207 : BitVec 32 := 0#32
  let v2288 : BitVec 1 := Scalar.cmpi .sgt v2286 c0_i32_1207
  let v2289 : BitVec 32 := Scalar.extui v2288
  let c0_i32_1208 : BitVec 32 := 0#32
  let v2290 : BitVec 1 := Scalar.cmpi .slt v2286 c0_i32_1208
  let v2291 : BitVec 32 := Scalar.extui v2290
  let v2292 : BitVec 32 := Scalar.subi v2289 v2291
  let c2_i32_1206 : BitVec 32 := 2#32
  let c0_i32_1209 : BitVec 32 := 0#32
  let v2293 : BitVec 1 := Scalar.cmpi .sgt c2_i32_1206 c0_i32_1209
  let v2294 : BitVec 32 := Scalar.extui v2293
  let c0_i32_1210 : BitVec 32 := 0#32
  let v2295 : BitVec 1 := Scalar.cmpi .slt c2_i32_1206 c0_i32_1210
  let v2296 : BitVec 32 := Scalar.extui v2295
  let v2297 : BitVec 32 := Scalar.subi v2294 v2296
  let v2298 : BitVec 1 := Scalar.cmpi .ne v2292 v2297
  let v2299 : BitVec 32 := Scalar.remsi v2286 c2_i32_1206
  let c0_i32_1211 : BitVec 32 := 0#32
  let v2300 : BitVec 1 := Scalar.cmpi .ne v2299 c0_i32_1211
  let v2301 : BitVec 1 := Scalar.andi v2298 v2300
  let v2287 : BitVec 32 := Scalar.divsi v2286 c2_i32_1206
  let c1_i32_1212 : BitVec 32 := 1#32
  let v2302 : BitVec 32 := Scalar.subi v2287 c1_i32_1212
  let v2303 : BitVec 32 := Scalar.select v2301 v2302 v2287
  let c512_i32_1213 : BitVec 32 := 512#32
  let v2304 : BitVec 32 := Scalar.muli v2303 c512_i32_1213
  let c256_i32_1214 : BitVec 32 := 256#32
  let v2305 : BitVec 32 := Scalar.addi v2304 c256_i32_1214
  v2305
def k0_mult32 : BitVec 32 :=
  let c0_i32_161 : BitVec 32 := 0#32
  let c16_i32_1240 : BitVec 32 := 16#32
  let v2356 : BitVec 32 := Scalar.muli c0_i32_161 c16_i32_1240
  let c16_i32_1241 : BitVec 32 := 16#32
  let v2357 : BitVec 32 := Scalar.addi v2356 c16_i32_1241
  let c2_i32_1242 : BitVec 32 := 2#32
  let v2358 : BitVec 32 := Scalar.subi v2357 c2_i32_1242
  let c0_i32_1243 : BitVec 32 := 0#32
  let v2359 : BitVec 32 := Scalar.maxsi v2358 c0_i32_1243
  let c0_i32_1245 : BitVec 32 := 0#32
  let v2361 : BitVec 1 := Scalar.cmpi .sgt v2359 c0_i32_1245
  let v2362 : BitVec 32 := Scalar.extui v2361
  let c0_i32_1246 : BitVec 32 := 0#32
  let v2363 : BitVec 1 := Scalar.cmpi .slt v2359 c0_i32_1246
  let v2364 : BitVec 32 := Scalar.extui v2363
  let v2365 : BitVec 32 := Scalar.subi v2362 v2364
  let c2_i32_1244 : BitVec 32 := 2#32
  let c0_i32_1247 : BitVec 32 := 0#32
  let v2366 : BitVec 1 := Scalar.cmpi .sgt c2_i32_1244 c0_i32_1247
  let v2367 : BitVec 32 := Scalar.extui v2366
  let c0_i32_1248 : BitVec 32 := 0#32
  let v2368 : BitVec 1 := Scalar.cmpi .slt c2_i32_1244 c0_i32_1248
  let v2369 : BitVec 32 := Scalar.extui v2368
  let v2370 : BitVec 32 := Scalar.subi v2367 v2369
  let v2371 : BitVec 1 := Scalar.cmpi .ne v2365 v2370
  let v2372 : BitVec 32 := Scalar.remsi v2359 c2_i32_1244
  let c0_i32_1249 : BitVec 32 := 0#32
  let v2373 : BitVec 1 := Scalar.cmpi .ne v2372 c0_i32_1249
  let v2374 : BitVec 1 := Scalar.andi v2371 v2373
  let v2360 : BitVec 32 := Scalar.divsi v2359 c2_i32_1244
  let c1_i32_1250 : BitVec 32 := 1#32
  let v2375 : BitVec 32 := Scalar.subi v2360 c1_i32_1250
  let v2376 : BitVec 32 := Scalar.select v2374 v2375 v2360
  let c512_i32_1251 : BitVec 32 := 512#32
  let v2377 : BitVec 32 := Scalar.muli v2376 c512_i32_1251
  let c0_i32_1252 : BitVec 32 := 0#32
  let v2378 : BitVec 32 := Scalar.addi v2377 c0_i32_1252
  v2378
def k0_mult33 : BitVec 32 :=
  let c0_i32_161 : BitVec 32 := 0#32
  let c16_i32_1278 : BitVec 32 := 16#32
  let v2429 : BitVec 32 := Scalar.muli c0_i32_161 c16_i32_1278
  let c0_i32_1279 : BitVec 32 := 0#32
  let v2430 : BitVec 32 := Scalar.addi v2429 c0_i32_1279
  let c2_i32_1280 : BitVec 32 := 2#32
  let v2431 : BitVec 32 := Scalar.subi v2430 c2_i32_1280
  let c0_i32_1281 : BitVec 32 := 0#32
  let v2432 : BitVec 32 := Scalar.maxsi v2431 c0_i32_1281
  let c0_i32_1283 : BitVec 32 := 0#32
  let v2434 : BitVec 1 := Scalar.cmpi .sgt v2432 c0_i32_1283
  let v2435 : BitVec 32 := Scalar.extui v2434
  let c0_i32_1284 : BitVec 32 := 0#32
  let v2436 : BitVec 1 := Scalar.cmpi .slt v2432 c0_i32_1284
  let v2437 : BitVec 32 := Scalar.extui v2436
  let v2438 : BitVec 32 := Scalar.subi v2435 v2437
  let c2_i32_1282 : BitVec 32 := 2#32
  let c0_i32_1285 : BitVec 32 := 0#32
  let v2439 : BitVec 1 := Scalar.cmpi .sgt c2_i32_1282 c0_i32_1285
  let v2440 : BitVec 32 := Scalar.extui v2439
  let c0_i32_1286 : BitVec 32 := 0#32
  let v2441 : BitVec 1 := Scalar.cmpi .slt c2_i32_1282 c0_i32_1286
  let v2442 : BitVec 32 := Scalar.extui v2441
  let v2443 : BitVec 32 := Scalar.subi v2440 v2442
  let v2444 : BitVec 1 := Scalar.cmpi .ne v2438 v2443
  let v2445 : BitVec 32 := Scalar.remsi v2432 c2_i32_1282
  let c0_i32_1287 : BitVec 32 := 0#32
  let v2446 : BitVec 1 := Scalar.cmpi .ne v2445 c0_i32_1287
  let v2447 : BitVec 1 := Scalar.andi v2444 v2446
  let v2433 : BitVec 32 := Scalar.divsi v2432 c2_i32_1282
  let c1_i32_1288 : BitVec 32 := 1#32
  let v2448 : BitVec 32 := Scalar.subi v2433 c1_i32_1288
  let v2449 : BitVec 32 := Scalar.select v2447 v2448 v2433
  let c512_i32_1289 : BitVec 32 := 512#32
  let v2450 : BitVec 32 := Scalar.muli v2449 c512_i32_1289
  let c0_i32_1290 : BitVec 32 := 0#32
  let v2451 : BitVec 32 := Scalar.addi v2450 c0_i32_1290
  v2451
def k0_mult34 : BitVec 32 :=
  let c0_i32_161 : BitVec 32 := 0#32
  let c16_i32_1318 : BitVec 32 := 16#32
  let v2505 : BitVec 32 := Scalar.muli c0_i32_161 c16_i32_1318
  let c1_i32_1319 : BitVec 32 := 1#32
  let v2506 : BitVec 32 := Scalar.addi v2505 c1_i32_1319
  let c2_i32_1320 : BitVec 32 := 2#32
  let v2507 : BitVec 32 := Scalar.subi v2506 c2_i32_1320
  let c0_i32_1321 : BitVec 32 := 0#32
  let v2508 : BitVec 32 := Scalar.maxsi v2507 c0_i32_1321
  let c0_i32_1323 : BitVec 32 := 0#32
  let v2510 : BitVec 1 := Scalar.cmpi .sgt v2508 c0_i32_1323
  let v2511 : BitVec 32 := Scalar.extui v2510
  let c0_i32_1324 : BitVec 32 := 0#32
  let v2512 : BitVec 1 := Scalar.cmpi .slt v2508 c0_i32_1324
  let v2513 : BitVec 32 := Scalar.extui v2512
  let v2514 : BitVec 32 := Scalar.subi v2511 v2513
  let c2_i32_1322 : BitVec 32 := 2#32
  let c0_i32_1325 : BitVec 32 := 0#32
  let v2515 : BitVec 1 := Scalar.cmpi .sgt c2_i32_1322 c0_i32_1325
  let v2516 : BitVec 32 := Scalar.extui v2515
  let c0_i32_1326 : BitVec 32 := 0#32
  let v2517 : BitVec 1 := Scalar.cmpi .slt c2_i32_1322 c0_i32_1326
  let v2518 : BitVec 32 := Scalar.extui v2517
  let v2519 : BitVec 32 := Scalar.subi v2516 v2518
  let v2520 : BitVec 1 := Scalar.cmpi .ne v2514 v2519
  let v2521 : BitVec 32 := Scalar.remsi v2508 c2_i32_1322
  let c0_i32_1327 : BitVec 32 := 0#32
  let v2522 : BitVec 1 := Scalar.cmpi .ne v2521 c0_i32_1327
  let v2523 : BitVec 1 := Scalar.andi v2520 v2522
  let v2509 : BitVec 32 := Scalar.divsi v2508 c2_i32_1322
  let c1_i32_1328 : BitVec 32 := 1#32
  let v2524 : BitVec 32 := Scalar.subi v2509 c1_i32_1328
  let v2525 : BitVec 32 := Scalar.select v2523 v2524 v2509
  let c512_i32_1329 : BitVec 32 := 512#32
  let v2526 : BitVec 32 := Scalar.muli v2525 c512_i32_1329
  let c256_i32_1330 : BitVec 32 := 256#32
  let v2527 : BitVec 32 := Scalar.addi v2526 c256_i32_1330
  v2527
def k0_mult35 : BitVec 32 :=
  let c0_i32_161 : BitVec 32 := 0#32
  let c16_i32_1358 : BitVec 32 := 16#32
  let v2581 : BitVec 32 := Scalar.muli c0_i32_161 c16_i32_1358
  let c2_i32_1359 : BitVec 32 := 2#32
  let v2582 : BitVec 32 := Scalar.addi v2581 c2_i32_1359
  let c2_i32_1360 : BitVec 32 := 2#32
  let v2583 : BitVec 32 := Scalar.subi v2582 c2_i32_1360
  let c0_i32_1361 : BitVec 32 := 0#32
  let v2584 : BitVec 32 := Scalar.maxsi v2583 c0_i32_1361
  let c0_i32_1363 : BitVec 32 := 0#32
  let v2586 : BitVec 1 := Scalar.cmpi .sgt v2584 c0_i32_1363
  let v2587 : BitVec 32 := Scalar.extui v2586
  let c0_i32_1364 : BitVec 32 := 0#32
  let v2588 : BitVec 1 := Scalar.cmpi .slt v2584 c0_i32_1364
  let v2589 : BitVec 32 := Scalar.extui v2588
  let v2590 : BitVec 32 := Scalar.subi v2587 v2589
  let c2_i32_1362 : BitVec 32 := 2#32
  let c0_i32_1365 : BitVec 32 := 0#32
  let v2591 : BitVec 1 := Scalar.cmpi .sgt c2_i32_1362 c0_i32_1365
  let v2592 : BitVec 32 := Scalar.extui v2591
  let c0_i32_1366 : BitVec 32 := 0#32
  let v2593 : BitVec 1 := Scalar.cmpi .slt c2_i32_1362 c0_i32_1366
  let v2594 : BitVec 32 := Scalar.extui v2593
  let v2595 : BitVec 32 := Scalar.subi v2592 v2594
  let v2596 : BitVec 1 := Scalar.cmpi .ne v2590 v2595
  let v2597 : BitVec 32 := Scalar.remsi v2584 c2_i32_1362
  let c0_i32_1367 : BitVec 32 := 0#32
  let v2598 : BitVec 1 := Scalar.cmpi .ne v2597 c0_i32_1367
  let v2599 : BitVec 1 := Scalar.andi v2596 v2598
  let v2585 : BitVec 32 := Scalar.divsi v2584 c2_i32_1362
  let c1_i32_1368 : BitVec 32 := 1#32
  let v2600 : BitVec 32 := Scalar.subi v2585 c1_i32_1368
  let v2601 : BitVec 32 := Scalar.select v2599 v2600 v2585
  let c512_i32_1369 : BitVec 32 := 512#32
  let v2602 : BitVec 32 := Scalar.muli v2601 c512_i32_1369
  let c0_i32_1370 : BitVec 32 := 0#32
  let v2603 : BitVec 32 := Scalar.addi v2602 c0_i32_1370
  v2603
def k0_mult36 : BitVec 32 :=
  let c0_i32_161 : BitVec 32 := 0#32
  let c16_i32_1396 : BitVec 32 := 16#32
  let v2654 : BitVec 32 := Scalar.muli c0_i32_161 c16_i32_1396
  let c3_i32_1397 : BitVec 32 := 3#32
  let v2655 : BitVec 32 := Scalar.addi v2654 c3_i32_1397
  let c2_i32_1398 : BitVec 32 := 2#32
  let v2656 : BitVec 32 := Scalar.subi v2655 c2_i32_1398
  let c0_i32_1399 : BitVec 32 := 0#32
  let v2657 : BitVec 32 := Scalar.maxsi v2656 c0_i32_1399
  let c0_i32_1401 : BitVec 32 := 0#32
  let v2659 : BitVec 1 := Scalar.cmpi .sgt v2657 c0_i32_1401
  let v2660 : BitVec 32 := Scalar.extui v2659
  let c0_i32_1402 : BitVec 32 := 0#32
  let v2661 : BitVec 1 := Scalar.cmpi .slt v2657 c0_i32_1402
  let v2662 : BitVec 32 := Scalar.extui v2661
  let v2663 : BitVec 32 := Scalar.subi v2660 v2662
  let c2_i32_1400 : BitVec 32 := 2#32
  let c0_i32_1403 : BitVec 32 := 0#32
  let v2664 : BitVec 1 := Scalar.cmpi .sgt c2_i32_1400 c0_i32_1403
  let v2665 : BitVec 32 := Scalar.extui v2664
  let c0_i32_1404 : BitVec 32 := 0#32
  let v2666 : BitVec 1 := Scalar.cmpi .slt c2_i32_1400 c0_i32_1404
  let v2667 : BitVec 32 := Scalar.extui v2666
  let v2668 : BitVec 32 := Scalar.subi v2665 v2667
  let v2669 : BitVec 1 := Scalar.cmpi .ne v2663 v2668
  let v2670 : BitVec 32 := Scalar.remsi v2657 c2_i32_1400
  let c0_i32_1405 : BitVec 32 := 0#32
  let v2671 : BitVec 1 := Scalar.cmpi .ne v2670 c0_i32_1405
  let v2672 : BitVec 1 := Scalar.andi v2669 v2671
  let v2658 : BitVec 32 := Scalar.divsi v2657 c2_i32_1400
  let c1_i32_1406 : BitVec 32 := 1#32
  let v2673 : BitVec 32 := Scalar.subi v2658 c1_i32_1406
  let v2674 : BitVec 32 := Scalar.select v2672 v2673 v2658
  let c512_i32_1407 : BitVec 32 := 512#32
  let v2675 : BitVec 32 := Scalar.muli v2674 c512_i32_1407
  let c256_i32_1408 : BitVec 32 := 256#32
  let v2676 : BitVec 32 := Scalar.addi v2675 c256_i32_1408
  v2676
def k0_mult37 : BitVec 32 :=
  let c0_i32_161 : BitVec 32 := 0#32
  let c16_i32_1434 : BitVec 32 := 16#32
  let v2727 : BitVec 32 := Scalar.muli c0_i32_161 c16_i32_1434
  let c4_i32_1435 : BitVec 32 := 4#32
  let v2728 : BitVec 32 := Scalar.addi v2727 c4_i32_1435
  let c2_i32_1436 : BitVec 32 := 2#32
  let v2729 : BitVec 32 := Scalar.subi v2728 c2_i32_1436
  let c0_i32_1437 : BitVec 32 := 0#32
  let v2730 : BitVec 32 := Scalar.maxsi v2729 c0_i32_1437
  let c0_i32_1439 : BitVec 32 := 0#32
  let v2732 : BitVec 1 := Scalar.cmpi .sgt v2730 c0_i32_1439
  let v2733 : BitVec 32 := Scalar.extui v2732
  let c0_i32_1440 : BitVec 32 := 0#32
  let v2734 : BitVec 1 := Scalar.cmpi .slt v2730 c0_i32_1440
  let v2735 : BitVec 32 := Scalar.extui v2734
  let v2736 : BitVec 32 := Scalar.subi v2733 v2735
  let c2_i32_1438 : BitVec 32 := 2#32
  let c0_i32_1441 : BitVec 32 := 0#32
  let v2737 : BitVec 1 := Scalar.cmpi .sgt c2_i32_1438 c0_i32_1441
  let v2738 : BitVec 32 := Scalar.extui v2737
  let c0_i32_1442 : BitVec 32 := 0#32
  let v2739 : BitVec 1 := Scalar.cmpi .slt c2_i32_1438 c0_i32_1442
  let v2740 : BitVec 32 := Scalar.extui v2739
  let v2741 : BitVec 32 := Scalar.subi v2738 v2740
  let v2742 : BitVec 1 := Scalar.cmpi .ne v2736 v2741
  let v2743 : BitVec 32 := Scalar.remsi v2730 c2_i32_1438
  let c0_i32_1443 : BitVec 32 := 0#32
  let v2744 : BitVec 1 := Scalar.cmpi .ne v2743 c0_i32_1443
  let v2745 : BitVec 1 := Scalar.andi v2742 v2744
  let v2731 : BitVec 32 := Scalar.divsi v2730 c2_i32_1438
  let c1_i32_1444 : BitVec 32 := 1#32
  let v2746 : BitVec 32 := Scalar.subi v2731 c1_i32_1444
  let v2747 : BitVec 32 := Scalar.select v2745 v2746 v2731
  let c512_i32_1445 : BitVec 32 := 512#32
  let v2748 : BitVec 32 := Scalar.muli v2747 c512_i32_1445
  let c0_i32_1446 : BitVec 32 := 0#32
  let v2749 : BitVec 32 := Scalar.addi v2748 c0_i32_1446
  v2749
def k0_mult38 : BitVec 32 :=
  let c0_i32_161 : BitVec 32 := 0#32
  let c16_i32_1472 : BitVec 32 := 16#32
  let v2800 : BitVec 32 := Scalar.muli c0_i32_161 c16_i32_1472
  let c5_i32_1473 : BitVec 32 := 5#32
  let v2801 : BitVec 32 := Scalar.addi v2800 c5_i32_1473
  let c2_i32_1474 : BitVec 32 := 2#32
  let v2802 : BitVec 32 := Scalar.subi v2801 c2_i32_1474
  let c0_i32_1475 : BitVec 32 := 0#32
  let v2803 : BitVec 32 := Scalar.maxsi v2802 c0_i32_1475
  let c0_i32_1477 : BitVec 32 := 0#32
  let v2805 : BitVec 1 := Scalar.cmpi .sgt v2803 c0_i32_1477
  let v2806 : BitVec 32 := Scalar.extui v2805
  let c0_i32_1478 : BitVec 32 := 0#32
  let v2807 : BitVec 1 := Scalar.cmpi .slt v2803 c0_i32_1478
  let v2808 : BitVec 32 := Scalar.extui v2807
  let v2809 : BitVec 32 := Scalar.subi v2806 v2808
  let c2_i32_1476 : BitVec 32 := 2#32
  let c0_i32_1479 : BitVec 32 := 0#32
  let v2810 : BitVec 1 := Scalar.cmpi .sgt c2_i32_1476 c0_i32_1479
  let v2811 : BitVec 32 := Scalar.extui v2810
  let c0_i32_1480 : BitVec 32 := 0#32
  let v2812 : BitVec 1 := Scalar.cmpi .slt c2_i32_1476 c0_i32_1480
  let v2813 : BitVec 32 := Scalar.extui v2812
  let v2814 : BitVec 32 := Scalar.subi v2811 v2813
  let v2815 : BitVec 1 := Scalar.cmpi .ne v2809 v2814
  let v2816 : BitVec 32 := Scalar.remsi v2803 c2_i32_1476
  let c0_i32_1481 : BitVec 32 := 0#32
  let v2817 : BitVec 1 := Scalar.cmpi .ne v2816 c0_i32_1481
  let v2818 : BitVec 1 := Scalar.andi v2815 v2817
  let v2804 : BitVec 32 := Scalar.divsi v2803 c2_i32_1476
  let c1_i32_1482 : BitVec 32 := 1#32
  let v2819 : BitVec 32 := Scalar.subi v2804 c1_i32_1482
  let v2820 : BitVec 32 := Scalar.select v2818 v2819 v2804
  let c512_i32_1483 : BitVec 32 := 512#32
  let v2821 : BitVec 32 := Scalar.muli v2820 c512_i32_1483
  let c256_i32_1484 : BitVec 32 := 256#32
  let v2822 : BitVec 32 := Scalar.addi v2821 c256_i32_1484
  v2822
def k0_mult39 : BitVec 32 :=
  let c0_i32_161 : BitVec 32 := 0#32
  let c16_i32_1510 : BitVec 32 := 16#32
  let v2873 : BitVec 32 := Scalar.muli c0_i32_161 c16_i32_1510
  let c6_i32_1511 : BitVec 32 := 6#32
  let v2874 : BitVec 32 := Scalar.addi v2873 c6_i32_1511
  let c2_i32_1512 : BitVec 32 := 2#32
  let v2875 : BitVec 32 := Scalar.subi v2874 c2_i32_1512
  let c0_i32_1513 : BitVec 32 := 0#32
  let v2876 : BitVec 32 := Scalar.maxsi v2875 c0_i32_1513
  let c0_i32_1515 : BitVec 32 := 0#32
  let v2878 : BitVec 1 := Scalar.cmpi .sgt v2876 c0_i32_1515
  let v2879 : BitVec 32 := Scalar.extui v2878
  let c0_i32_1516 : BitVec 32 := 0#32
  let v2880 : BitVec 1 := Scalar.cmpi .slt v2876 c0_i32_1516
  let v2881 : BitVec 32 := Scalar.extui v2880
  let v2882 : BitVec 32 := Scalar.subi v2879 v2881
  let c2_i32_1514 : BitVec 32 := 2#32
  let c0_i32_1517 : BitVec 32 := 0#32
  let v2883 : BitVec 1 := Scalar.cmpi .sgt c2_i32_1514 c0_i32_1517
  let v2884 : BitVec 32 := Scalar.extui v2883
  let c0_i32_1518 : BitVec 32 := 0#32
  let v2885 : BitVec 1 := Scalar.cmpi .slt c2_i32_1514 c0_i32_1518
  let v2886 : BitVec 32 := Scalar.extui v2885
  let v2887 : BitVec 32 := Scalar.subi v2884 v2886
  let v2888 : BitVec 1 := Scalar.cmpi .ne v2882 v2887
  let v2889 : BitVec 32 := Scalar.remsi v2876 c2_i32_1514
  let c0_i32_1519 : BitVec 32 := 0#32
  let v2890 : BitVec 1 := Scalar.cmpi .ne v2889 c0_i32_1519
  let v2891 : BitVec 1 := Scalar.andi v2888 v2890
  let v2877 : BitVec 32 := Scalar.divsi v2876 c2_i32_1514
  let c1_i32_1520 : BitVec 32 := 1#32
  let v2892 : BitVec 32 := Scalar.subi v2877 c1_i32_1520
  let v2893 : BitVec 32 := Scalar.select v2891 v2892 v2877
  let c512_i32_1521 : BitVec 32 := 512#32
  let v2894 : BitVec 32 := Scalar.muli v2893 c512_i32_1521
  let c0_i32_1522 : BitVec 32 := 0#32
  let v2895 : BitVec 32 := Scalar.addi v2894 c0_i32_1522
  v2895
def k0_mult40 : BitVec 32 :=
  let c0_i32_161 : BitVec 32 := 0#32
  let c16_i32_1548 : BitVec 32 := 16#32
  let v2946 : BitVec 32 := Scalar.muli c0_i32_161 c16_i32_1548
  let c7_i32_1549 : BitVec 32 := 7#32
  let v2947 : BitVec 32 := Scalar.addi v2946 c7_i32_1549
  let c2_i32_1550 : BitVec 32 := 2#32
  let v2948 : BitVec 32 := Scalar.subi v2947 c2_i32_1550
  let c0_i32_1551 : BitVec 32 := 0#32
  let v2949 : BitVec 32 := Scalar.maxsi v2948 c0_i32_1551
  let c0_i32_1553 : BitVec 32 := 0#32
  let v2951 : BitVec 1 := Scalar.cmpi .sgt v2949 c0_i32_1553
  let v2952 : BitVec 32 := Scalar.extui v2951
  let c0_i32_1554 : BitVec 32 := 0#32
  let v2953 : BitVec 1 := Scalar.cmpi .slt v2949 c0_i32_1554
  let v2954 : BitVec 32 := Scalar.extui v2953
  let v2955 : BitVec 32 := Scalar.subi v2952 v2954
  let c2_i32_1552 : BitVec 32 := 2#32
  let c0_i32_1555 : BitVec 32 := 0#32
  let v2956 : BitVec 1 := Scalar.cmpi .sgt c2_i32_1552 c0_i32_1555
  let v2957 : BitVec 32 := Scalar.extui v2956
  let c0_i32_1556 : BitVec 32 := 0#32
  let v2958 : BitVec 1 := Scalar.cmpi .slt c2_i32_1552 c0_i32_1556
  let v2959 : BitVec 32 := Scalar.extui v2958
  let v2960 : BitVec 32 := Scalar.subi v2957 v2959
  let v2961 : BitVec 1 := Scalar.cmpi .ne v2955 v2960
  let v2962 : BitVec 32 := Scalar.remsi v2949 c2_i32_1552
  let c0_i32_1557 : BitVec 32 := 0#32
  let v2963 : BitVec 1 := Scalar.cmpi .ne v2962 c0_i32_1557
  let v2964 : BitVec 1 := Scalar.andi v2961 v2963
  let v2950 : BitVec 32 := Scalar.divsi v2949 c2_i32_1552
  let c1_i32_1558 : BitVec 32 := 1#32
  let v2965 : BitVec 32 := Scalar.subi v2950 c1_i32_1558
  let v2966 : BitVec 32 := Scalar.select v2964 v2965 v2950
  let c512_i32_1559 : BitVec 32 := 512#32
  let v2967 : BitVec 32 := Scalar.muli v2966 c512_i32_1559
  let c256_i32_1560 : BitVec 32 := 256#32
  let v2968 : BitVec 32 := Scalar.addi v2967 c256_i32_1560
  v2968
def k0_mult41 : BitVec 32 :=
  let c0_i32_161 : BitVec 32 := 0#32
  let c16_i32_1586 : BitVec 32 := 16#32
  let v3019 : BitVec 32 := Scalar.muli c0_i32_161 c16_i32_1586
  let c8_i32_1587 : BitVec 32 := 8#32
  let v3020 : BitVec 32 := Scalar.addi v3019 c8_i32_1587
  let c2_i32_1588 : BitVec 32 := 2#32
  let v3021 : BitVec 32 := Scalar.subi v3020 c2_i32_1588
  let c0_i32_1589 : BitVec 32 := 0#32
  let v3022 : BitVec 32 := Scalar.maxsi v3021 c0_i32_1589
  let c0_i32_1591 : BitVec 32 := 0#32
  let v3024 : BitVec 1 := Scalar.cmpi .sgt v3022 c0_i32_1591
  let v3025 : BitVec 32 := Scalar.extui v3024
  let c0_i32_1592 : BitVec 32 := 0#32
  let v3026 : BitVec 1 := Scalar.cmpi .slt v3022 c0_i32_1592
  let v3027 : BitVec 32 := Scalar.extui v3026
  let v3028 : BitVec 32 := Scalar.subi v3025 v3027
  let c2_i32_1590 : BitVec 32 := 2#32
  let c0_i32_1593 : BitVec 32 := 0#32
  let v3029 : BitVec 1 := Scalar.cmpi .sgt c2_i32_1590 c0_i32_1593
  let v3030 : BitVec 32 := Scalar.extui v3029
  let c0_i32_1594 : BitVec 32 := 0#32
  let v3031 : BitVec 1 := Scalar.cmpi .slt c2_i32_1590 c0_i32_1594
  let v3032 : BitVec 32 := Scalar.extui v3031
  let v3033 : BitVec 32 := Scalar.subi v3030 v3032
  let v3034 : BitVec 1 := Scalar.cmpi .ne v3028 v3033
  let v3035 : BitVec 32 := Scalar.remsi v3022 c2_i32_1590
  let c0_i32_1595 : BitVec 32 := 0#32
  let v3036 : BitVec 1 := Scalar.cmpi .ne v3035 c0_i32_1595
  let v3037 : BitVec 1 := Scalar.andi v3034 v3036
  let v3023 : BitVec 32 := Scalar.divsi v3022 c2_i32_1590
  let c1_i32_1596 : BitVec 32 := 1#32
  let v3038 : BitVec 32 := Scalar.subi v3023 c1_i32_1596
  let v3039 : BitVec 32 := Scalar.select v3037 v3038 v3023
  let c512_i32_1597 : BitVec 32 := 512#32
  let v3040 : BitVec 32 := Scalar.muli v3039 c512_i32_1597
  let c0_i32_1598 : BitVec 32 := 0#32
  let v3041 : BitVec 32 := Scalar.addi v3040 c0_i32_1598
  v3041
def k0_mult42 : BitVec 32 :=
  let c0_i32_161 : BitVec 32 := 0#32
  let c16_i32_1624 : BitVec 32 := 16#32
  let v3092 : BitVec 32 := Scalar.muli c0_i32_161 c16_i32_1624
  let c9_i32_1625 : BitVec 32 := 9#32
  let v3093 : BitVec 32 := Scalar.addi v3092 c9_i32_1625
  let c2_i32_1626 : BitVec 32 := 2#32
  let v3094 : BitVec 32 := Scalar.subi v3093 c2_i32_1626
  let c0_i32_1627 : BitVec 32 := 0#32
  let v3095 : BitVec 32 := Scalar.maxsi v3094 c0_i32_1627
  let c0_i32_1629 : BitVec 32 := 0#32
  let v3097 : BitVec 1 := Scalar.cmpi .sgt v3095 c0_i32_1629
  let v3098 : BitVec 32 := Scalar.extui v3097
  let c0_i32_1630 : BitVec 32 := 0#32
  let v3099 : BitVec 1 := Scalar.cmpi .slt v3095 c0_i32_1630
  let v3100 : BitVec 32 := Scalar.extui v3099
  let v3101 : BitVec 32 := Scalar.subi v3098 v3100
  let c2_i32_1628 : BitVec 32 := 2#32
  let c0_i32_1631 : BitVec 32 := 0#32
  let v3102 : BitVec 1 := Scalar.cmpi .sgt c2_i32_1628 c0_i32_1631
  let v3103 : BitVec 32 := Scalar.extui v3102
  let c0_i32_1632 : BitVec 32 := 0#32
  let v3104 : BitVec 1 := Scalar.cmpi .slt c2_i32_1628 c0_i32_1632
  let v3105 : BitVec 32 := Scalar.extui v3104
  let v3106 : BitVec 32 := Scalar.subi v3103 v3105
  let v3107 : BitVec 1 := Scalar.cmpi .ne v3101 v3106
  let v3108 : BitVec 32 := Scalar.remsi v3095 c2_i32_1628
  let c0_i32_1633 : BitVec 32 := 0#32
  let v3109 : BitVec 1 := Scalar.cmpi .ne v3108 c0_i32_1633
  let v3110 : BitVec 1 := Scalar.andi v3107 v3109
  let v3096 : BitVec 32 := Scalar.divsi v3095 c2_i32_1628
  let c1_i32_1634 : BitVec 32 := 1#32
  let v3111 : BitVec 32 := Scalar.subi v3096 c1_i32_1634
  let v3112 : BitVec 32 := Scalar.select v3110 v3111 v3096
  let c512_i32_1635 : BitVec 32 := 512#32
  let v3113 : BitVec 32 := Scalar.muli v3112 c512_i32_1635
  let c256_i32_1636 : BitVec 32 := 256#32
  let v3114 : BitVec 32 := Scalar.addi v3113 c256_i32_1636
  v3114
def k0_mult43 : BitVec 32 :=
  let c0_i32_161 : BitVec 32 := 0#32
  let c16_i32_1662 : BitVec 32 := 16#32
  let v3165 : BitVec 32 := Scalar.muli c0_i32_161 c16_i32_1662
  let c10_i32_1663 : BitVec 32 := 10#32
  let v3166 : BitVec 32 := Scalar.addi v3165 c10_i32_1663
  let c2_i32_1664 : BitVec 32 := 2#32
  let v3167 : BitVec 32 := Scalar.subi v3166 c2_i32_1664
  let c0_i32_1665 : BitVec 32 := 0#32
  let v3168 : BitVec 32 := Scalar.maxsi v3167 c0_i32_1665
  let c0_i32_1667 : BitVec 32 := 0#32
  let v3170 : BitVec 1 := Scalar.cmpi .sgt v3168 c0_i32_1667
  let v3171 : BitVec 32 := Scalar.extui v3170
  let c0_i32_1668 : BitVec 32 := 0#32
  let v3172 : BitVec 1 := Scalar.cmpi .slt v3168 c0_i32_1668
  let v3173 : BitVec 32 := Scalar.extui v3172
  let v3174 : BitVec 32 := Scalar.subi v3171 v3173
  let c2_i32_1666 : BitVec 32 := 2#32
  let c0_i32_1669 : BitVec 32 := 0#32
  let v3175 : BitVec 1 := Scalar.cmpi .sgt c2_i32_1666 c0_i32_1669
  let v3176 : BitVec 32 := Scalar.extui v3175
  let c0_i32_1670 : BitVec 32 := 0#32
  let v3177 : BitVec 1 := Scalar.cmpi .slt c2_i32_1666 c0_i32_1670
  let v3178 : BitVec 32 := Scalar.extui v3177
  let v3179 : BitVec 32 := Scalar.subi v3176 v3178
  let v3180 : BitVec 1 := Scalar.cmpi .ne v3174 v3179
  let v3181 : BitVec 32 := Scalar.remsi v3168 c2_i32_1666
  let c0_i32_1671 : BitVec 32 := 0#32
  let v3182 : BitVec 1 := Scalar.cmpi .ne v3181 c0_i32_1671
  let v3183 : BitVec 1 := Scalar.andi v3180 v3182
  let v3169 : BitVec 32 := Scalar.divsi v3168 c2_i32_1666
  let c1_i32_1672 : BitVec 32 := 1#32
  let v3184 : BitVec 32 := Scalar.subi v3169 c1_i32_1672
  let v3185 : BitVec 32 := Scalar.select v3183 v3184 v3169
  let c512_i32_1673 : BitVec 32 := 512#32
  let v3186 : BitVec 32 := Scalar.muli v3185 c512_i32_1673
  let c0_i32_1674 : BitVec 32 := 0#32
  let v3187 : BitVec 32 := Scalar.addi v3186 c0_i32_1674
  v3187
def k0_mult44 : BitVec 32 :=
  let c0_i32_161 : BitVec 32 := 0#32
  let c16_i32_1700 : BitVec 32 := 16#32
  let v3238 : BitVec 32 := Scalar.muli c0_i32_161 c16_i32_1700
  let c11_i32_1701 : BitVec 32 := 11#32
  let v3239 : BitVec 32 := Scalar.addi v3238 c11_i32_1701
  let c2_i32_1702 : BitVec 32 := 2#32
  let v3240 : BitVec 32 := Scalar.subi v3239 c2_i32_1702
  let c0_i32_1703 : BitVec 32 := 0#32
  let v3241 : BitVec 32 := Scalar.maxsi v3240 c0_i32_1703
  let c0_i32_1705 : BitVec 32 := 0#32
  let v3243 : BitVec 1 := Scalar.cmpi .sgt v3241 c0_i32_1705
  let v3244 : BitVec 32 := Scalar.extui v3243
  let c0_i32_1706 : BitVec 32 := 0#32
  let v3245 : BitVec 1 := Scalar.cmpi .slt v3241 c0_i32_1706
  let v3246 : BitVec 32 := Scalar.extui v3245
  let v3247 : BitVec 32 := Scalar.subi v3244 v3246
  let c2_i32_1704 : BitVec 32 := 2#32
  let c0_i32_1707 : BitVec 32 := 0#32
  let v3248 : BitVec 1 := Scalar.cmpi .sgt c2_i32_1704 c0_i32_1707
  let v3249 : BitVec 32 := Scalar.extui v3248
  let c0_i32_1708 : BitVec 32 := 0#32
  let v3250 : BitVec 1 := Scalar.cmpi .slt c2_i32_1704 c0_i32_1708
  let v3251 : BitVec 32 := Scalar.extui v3250
  let v3252 : BitVec 32 := Scalar.subi v3249 v3251
  let v3253 : BitVec 1 := Scalar.cmpi .ne v3247 v3252
  let v3254 : BitVec 32 := Scalar.remsi v3241 c2_i32_1704
  let c0_i32_1709 : BitVec 32 := 0#32
  let v3255 : BitVec 1 := Scalar.cmpi .ne v3254 c0_i32_1709
  let v3256 : BitVec 1 := Scalar.andi v3253 v3255
  let v3242 : BitVec 32 := Scalar.divsi v3241 c2_i32_1704
  let c1_i32_1710 : BitVec 32 := 1#32
  let v3257 : BitVec 32 := Scalar.subi v3242 c1_i32_1710
  let v3258 : BitVec 32 := Scalar.select v3256 v3257 v3242
  let c512_i32_1711 : BitVec 32 := 512#32
  let v3259 : BitVec 32 := Scalar.muli v3258 c512_i32_1711
  let c256_i32_1712 : BitVec 32 := 256#32
  let v3260 : BitVec 32 := Scalar.addi v3259 c256_i32_1712
  v3260
def k0_mult45 : BitVec 32 :=
  let c0_i32_161 : BitVec 32 := 0#32
  let c16_i32_1738 : BitVec 32 := 16#32
  let v3311 : BitVec 32 := Scalar.muli c0_i32_161 c16_i32_1738
  let c12_i32_1739 : BitVec 32 := 12#32
  let v3312 : BitVec 32 := Scalar.addi v3311 c12_i32_1739
  let c2_i32_1740 : BitVec 32 := 2#32
  let v3313 : BitVec 32 := Scalar.subi v3312 c2_i32_1740
  let c0_i32_1741 : BitVec 32 := 0#32
  let v3314 : BitVec 32 := Scalar.maxsi v3313 c0_i32_1741
  let c0_i32_1743 : BitVec 32 := 0#32
  let v3316 : BitVec 1 := Scalar.cmpi .sgt v3314 c0_i32_1743
  let v3317 : BitVec 32 := Scalar.extui v3316
  let c0_i32_1744 : BitVec 32 := 0#32
  let v3318 : BitVec 1 := Scalar.cmpi .slt v3314 c0_i32_1744
  let v3319 : BitVec 32 := Scalar.extui v3318
  let v3320 : BitVec 32 := Scalar.subi v3317 v3319
  let c2_i32_1742 : BitVec 32 := 2#32
  let c0_i32_1745 : BitVec 32 := 0#32
  let v3321 : BitVec 1 := Scalar.cmpi .sgt c2_i32_1742 c0_i32_1745
  let v3322 : BitVec 32 := Scalar.extui v3321
  let c0_i32_1746 : BitVec 32 := 0#32
  let v3323 : BitVec 1 := Scalar.cmpi .slt c2_i32_1742 c0_i32_1746
  let v3324 : BitVec 32 := Scalar.extui v3323
  let v3325 : BitVec 32 := Scalar.subi v3322 v3324
  let v3326 : BitVec 1 := Scalar.cmpi .ne v3320 v3325
  let v3327 : BitVec 32 := Scalar.remsi v3314 c2_i32_1742
  let c0_i32_1747 : BitVec 32 := 0#32
  let v3328 : BitVec 1 := Scalar.cmpi .ne v3327 c0_i32_1747
  let v3329 : BitVec 1 := Scalar.andi v3326 v3328
  let v3315 : BitVec 32 := Scalar.divsi v3314 c2_i32_1742
  let c1_i32_1748 : BitVec 32 := 1#32
  let v3330 : BitVec 32 := Scalar.subi v3315 c1_i32_1748
  let v3331 : BitVec 32 := Scalar.select v3329 v3330 v3315
  let c512_i32_1749 : BitVec 32 := 512#32
  let v3332 : BitVec 32 := Scalar.muli v3331 c512_i32_1749
  let c0_i32_1750 : BitVec 32 := 0#32
  let v3333 : BitVec 32 := Scalar.addi v3332 c0_i32_1750
  v3333
def k0_mult46 : BitVec 32 :=
  let c0_i32_161 : BitVec 32 := 0#32
  let c16_i32_1776 : BitVec 32 := 16#32
  let v3384 : BitVec 32 := Scalar.muli c0_i32_161 c16_i32_1776
  let c13_i32_1777 : BitVec 32 := 13#32
  let v3385 : BitVec 32 := Scalar.addi v3384 c13_i32_1777
  let c2_i32_1778 : BitVec 32 := 2#32
  let v3386 : BitVec 32 := Scalar.subi v3385 c2_i32_1778
  let c0_i32_1779 : BitVec 32 := 0#32
  let v3387 : BitVec 32 := Scalar.maxsi v3386 c0_i32_1779
  let c0_i32_1781 : BitVec 32 := 0#32
  let v3389 : BitVec 1 := Scalar.cmpi .sgt v3387 c0_i32_1781
  let v3390 : BitVec 32 := Scalar.extui v3389
  let c0_i32_1782 : BitVec 32 := 0#32
  let v3391 : BitVec 1 := Scalar.cmpi .slt v3387 c0_i32_1782
  let v3392 : BitVec 32 := Scalar.extui v3391
  let v3393 : BitVec 32 := Scalar.subi v3390 v3392
  let c2_i32_1780 : BitVec 32 := 2#32
  let c0_i32_1783 : BitVec 32 := 0#32
  let v3394 : BitVec 1 := Scalar.cmpi .sgt c2_i32_1780 c0_i32_1783
  let v3395 : BitVec 32 := Scalar.extui v3394
  let c0_i32_1784 : BitVec 32 := 0#32
  let v3396 : BitVec 1 := Scalar.cmpi .slt c2_i32_1780 c0_i32_1784
  let v3397 : BitVec 32 := Scalar.extui v3396
  let v3398 : BitVec 32 := Scalar.subi v3395 v3397
  let v3399 : BitVec 1 := Scalar.cmpi .ne v3393 v3398
  let v3400 : BitVec 32 := Scalar.remsi v3387 c2_i32_1780
  let c0_i32_1785 : BitVec 32 := 0#32
  let v3401 : BitVec 1 := Scalar.cmpi .ne v3400 c0_i32_1785
  let v3402 : BitVec 1 := Scalar.andi v3399 v3401
  let v3388 : BitVec 32 := Scalar.divsi v3387 c2_i32_1780
  let c1_i32_1786 : BitVec 32 := 1#32
  let v3403 : BitVec 32 := Scalar.subi v3388 c1_i32_1786
  let v3404 : BitVec 32 := Scalar.select v3402 v3403 v3388
  let c512_i32_1787 : BitVec 32 := 512#32
  let v3405 : BitVec 32 := Scalar.muli v3404 c512_i32_1787
  let c256_i32_1788 : BitVec 32 := 256#32
  let v3406 : BitVec 32 := Scalar.addi v3405 c256_i32_1788
  v3406
def k0_mult47 : BitVec 32 :=
  let c0_i32_161 : BitVec 32 := 0#32
  let c16_i32_1814 : BitVec 32 := 16#32
  let v3457 : BitVec 32 := Scalar.muli c0_i32_161 c16_i32_1814
  let c14_i32_1815 : BitVec 32 := 14#32
  let v3458 : BitVec 32 := Scalar.addi v3457 c14_i32_1815
  let c2_i32_1816 : BitVec 32 := 2#32
  let v3459 : BitVec 32 := Scalar.subi v3458 c2_i32_1816
  let c0_i32_1817 : BitVec 32 := 0#32
  let v3460 : BitVec 32 := Scalar.maxsi v3459 c0_i32_1817
  let c0_i32_1819 : BitVec 32 := 0#32
  let v3462 : BitVec 1 := Scalar.cmpi .sgt v3460 c0_i32_1819
  let v3463 : BitVec 32 := Scalar.extui v3462
  let c0_i32_1820 : BitVec 32 := 0#32
  let v3464 : BitVec 1 := Scalar.cmpi .slt v3460 c0_i32_1820
  let v3465 : BitVec 32 := Scalar.extui v3464
  let v3466 : BitVec 32 := Scalar.subi v3463 v3465
  let c2_i32_1818 : BitVec 32 := 2#32
  let c0_i32_1821 : BitVec 32 := 0#32
  let v3467 : BitVec 1 := Scalar.cmpi .sgt c2_i32_1818 c0_i32_1821
  let v3468 : BitVec 32 := Scalar.extui v3467
  let c0_i32_1822 : BitVec 32 := 0#32
  let v3469 : BitVec 1 := Scalar.cmpi .slt c2_i32_1818 c0_i32_1822
  let v3470 : BitVec 32 := Scalar.extui v3469
  let v3471 : BitVec 32 := Scalar.subi v3468 v3470
  let v3472 : BitVec 1 := Scalar.cmpi .ne v3466 v3471
  let v3473 : BitVec 32 := Scalar.remsi v3460 c2_i32_1818
  let c0_i32_1823 : BitVec 32 := 0#32
  let v3474 : BitVec 1 := Scalar.cmpi .ne v3473 c0_i32_1823
  let v3475 : BitVec 1 := Scalar.andi v3472 v3474
  let v3461 : BitVec 32 := Scalar.divsi v3460 c2_i32_1818
  let c1_i32_1824 : BitVec 32 := 1#32
  let v3476 : BitVec 32 := Scalar.subi v3461 c1_i32_1824
  let v3477 : BitVec 32 := Scalar.select v3475 v3476 v3461
  let c512_i32_1825 : BitVec 32 := 512#32
  let v3478 : BitVec 32 := Scalar.muli v3477 c512_i32_1825
  let c0_i32_1826 : BitVec 32 := 0#32
  let v3479 : BitVec 32 := Scalar.addi v3478 c0_i32_1826
  v3479
def k0_mult48 : BitVec 32 :=
  let c0_i32_161 : BitVec 32 := 0#32
  let c16_i32_1852 : BitVec 32 := 16#32
  let v3530 : BitVec 32 := Scalar.muli c0_i32_161 c16_i32_1852
  let c15_i32_1853 : BitVec 32 := 15#32
  let v3531 : BitVec 32 := Scalar.addi v3530 c15_i32_1853
  let c2_i32_1854 : BitVec 32 := 2#32
  let v3532 : BitVec 32 := Scalar.subi v3531 c2_i32_1854
  let c0_i32_1855 : BitVec 32 := 0#32
  let v3533 : BitVec 32 := Scalar.maxsi v3532 c0_i32_1855
  let c0_i32_1857 : BitVec 32 := 0#32
  let v3535 : BitVec 1 := Scalar.cmpi .sgt v3533 c0_i32_1857
  let v3536 : BitVec 32 := Scalar.extui v3535
  let c0_i32_1858 : BitVec 32 := 0#32
  let v3537 : BitVec 1 := Scalar.cmpi .slt v3533 c0_i32_1858
  let v3538 : BitVec 32 := Scalar.extui v3537
  let v3539 : BitVec 32 := Scalar.subi v3536 v3538
  let c2_i32_1856 : BitVec 32 := 2#32
  let c0_i32_1859 : BitVec 32 := 0#32
  let v3540 : BitVec 1 := Scalar.cmpi .sgt c2_i32_1856 c0_i32_1859
  let v3541 : BitVec 32 := Scalar.extui v3540
  let c0_i32_1860 : BitVec 32 := 0#32
  let v3542 : BitVec 1 := Scalar.cmpi .slt c2_i32_1856 c0_i32_1860
  let v3543 : BitVec 32 := Scalar.extui v3542
  let v3544 : BitVec 32 := Scalar.subi v3541 v3543
  let v3545 : BitVec 1 := Scalar.cmpi .ne v3539 v3544
  let v3546 : BitVec 32 := Scalar.remsi v3533 c2_i32_1856
  let c0_i32_1861 : BitVec 32 := 0#32
  let v3547 : BitVec 1 := Scalar.cmpi .ne v3546 c0_i32_1861
  let v3548 : BitVec 1 := Scalar.andi v3545 v3547
  let v3534 : BitVec 32 := Scalar.divsi v3533 c2_i32_1856
  let c1_i32_1862 : BitVec 32 := 1#32
  let v3549 : BitVec 32 := Scalar.subi v3534 c1_i32_1862
  let v3550 : BitVec 32 := Scalar.select v3548 v3549 v3534
  let c512_i32_1863 : BitVec 32 := 512#32
  let v3551 : BitVec 32 := Scalar.muli v3550 c512_i32_1863
  let c256_i32_1864 : BitVec 32 := 256#32
  let v3552 : BitVec 32 := Scalar.addi v3551 c256_i32_1864
  v3552
def k0_mult49 : BitVec 32 :=
  let c0_i32_161 : BitVec 32 := 0#32
  let c1_i32_1890 : BitVec 32 := 1#32
  let v3603 : BitVec 32 := Scalar.addi c0_i32_161 c1_i32_1890
  let c0_i32_1891 : BitVec 32 := 0#32
  let v3604 : BitVec 32 := Scalar.minsi v3603 c0_i32_1891
  let c16_i32_1892 : BitVec 32 := 16#32
  let v3605 : BitVec 32 := Scalar.muli v3604 c16_i32_1892
  let c2_i32_1893 : BitVec 32 := 2#32
  let v3606 : BitVec 32 := Scalar.addi v3605 c2_i32_1893
  let c2_i32_1894 : BitVec 32 := 2#32
  let v3607 : BitVec 32 := Scalar.subi v3606 c2_i32_1894
  let c0_i32_1895 : BitVec 32 := 0#32
  let v3608 : BitVec 32 := Scalar.maxsi v3607 c0_i32_1895
  let c0_i32_1897 : BitVec 32 := 0#32
  let v3610 : BitVec 1 := Scalar.cmpi .sgt v3608 c0_i32_1897
  let v3611 : BitVec 32 := Scalar.extui v3610
  let c0_i32_1898 : BitVec 32 := 0#32
  let v3612 : BitVec 1 := Scalar.cmpi .slt v3608 c0_i32_1898
  let v3613 : BitVec 32 := Scalar.extui v3612
  let v3614 : BitVec 32 := Scalar.subi v3611 v3613
  let c2_i32_1896 : BitVec 32 := 2#32
  let c0_i32_1899 : BitVec 32 := 0#32
  let v3615 : BitVec 1 := Scalar.cmpi .sgt c2_i32_1896 c0_i32_1899
  let v3616 : BitVec 32 := Scalar.extui v3615
  let c0_i32_1900 : BitVec 32 := 0#32
  let v3617 : BitVec 1 := Scalar.cmpi .slt c2_i32_1896 c0_i32_1900
  let v3618 : BitVec 32 := Scalar.extui v3617
  let v3619 : BitVec 32 := Scalar.subi v3616 v3618
  let v3620 : BitVec 1 := Scalar.cmpi .ne v3614 v3619
  let v3621 : BitVec 32 := Scalar.remsi v3608 c2_i32_1896
  let c0_i32_1901 : BitVec 32 := 0#32
  let v3622 : BitVec 1 := Scalar.cmpi .ne v3621 c0_i32_1901
  let v3623 : BitVec 1 := Scalar.andi v3620 v3622
  let v3609 : BitVec 32 := Scalar.divsi v3608 c2_i32_1896
  let c1_i32_1902 : BitVec 32 := 1#32
  let v3624 : BitVec 32 := Scalar.subi v3609 c1_i32_1902
  let v3625 : BitVec 32 := Scalar.select v3623 v3624 v3609
  let c512_i32_1903 : BitVec 32 := 512#32
  let v3626 : BitVec 32 := Scalar.muli v3625 c512_i32_1903
  let c0_i32_1904 : BitVec 32 := 0#32
  let v3627 : BitVec 32 := Scalar.addi v3626 c0_i32_1904
  v3627
def k0_off5 (c2_i32_1893 : BitVec 32) (c0_i32_1904 : BitVec 32) : Fin 3 → Nat :=
  let c0_1905 : Index := 0#32
  let c0_i32_161 : BitVec 32 := 0#32
  let c1_i32_1890 : BitVec 32 := 1#32
  let v3603 : BitVec 32 := Scalar.addi c0_i32_161 c1_i32_1890
  let c0_i32_1891 : BitVec 32 := 0#32
  let v3604 : BitVec 32 := Scalar.minsi v3603 c0_i32_1891
  let c16_i32_1892 : BitVec 32 := 16#32
  let v3605 : BitVec 32 := Scalar.muli v3604 c16_i32_1892
  let v3606 : BitVec 32 := Scalar.addi v3605 c2_i32_1893
  let c2_i32_1894 : BitVec 32 := 2#32
  let v3607 : BitVec 32 := Scalar.subi v3606 c2_i32_1894
  let c0_i32_1895 : BitVec 32 := 0#32
  let v3608 : BitVec 32 := Scalar.maxsi v3607 c0_i32_1895
  let c0_i32_1897 : BitVec 32 := 0#32
  let v3610 : BitVec 1 := Scalar.cmpi .sgt v3608 c0_i32_1897
  let v3611 : BitVec 32 := Scalar.extui v3610
  let c0_i32_1898 : BitVec 32 := 0#32
  let v3612 : BitVec 1 := Scalar.cmpi .slt v3608 c0_i32_1898
  let v3613 : BitVec 32 := Scalar.extui v3612
  let v3614 : BitVec 32 := Scalar.subi v3611 v3613
  let c2_i32_1896 : BitVec 32 := 2#32
  let c0_i32_1899 : BitVec 32 := 0#32
  let v3615 : BitVec 1 := Scalar.cmpi .sgt c2_i32_1896 c0_i32_1899
  let v3616 : BitVec 32 := Scalar.extui v3615
  let c0_i32_1900 : BitVec 32 := 0#32
  let v3617 : BitVec 1 := Scalar.cmpi .slt c2_i32_1896 c0_i32_1900
  let v3618 : BitVec 32 := Scalar.extui v3617
  let v3619 : BitVec 32 := Scalar.subi v3616 v3618
  let v3620 : BitVec 1 := Scalar.cmpi .ne v3614 v3619
  let v3621 : BitVec 32 := Scalar.remsi v3608 c2_i32_1896
  let c0_i32_1901 : BitVec 32 := 0#32
  let v3622 : BitVec 1 := Scalar.cmpi .ne v3621 c0_i32_1901
  let v3623 : BitVec 1 := Scalar.andi v3620 v3622
  let v3609 : BitVec 32 := Scalar.divsi v3608 c2_i32_1896
  let c1_i32_1902 : BitVec 32 := 1#32
  let v3624 : BitVec 32 := Scalar.subi v3609 c1_i32_1902
  let v3625 : BitVec 32 := Scalar.select v3623 v3624 v3609
  let c512_i32_1903 : BitVec 32 := 512#32
  let v3626 : BitVec 32 := Scalar.muli v3625 c512_i32_1903
  let v3627 : BitVec 32 := Scalar.addi v3626 c0_i32_1904
  let v3628 : BitVec 32 := v3627
  let v3629 : Index := Scalar.indexCast v3628
  let c0_1906 : Index := 0#32
  ![0, v3629.toNat, 0]
def k0_off5_at (r : Fin 2) : BitVec 32 × BitVec 32 :=
  if r.val < 1 then
    (2#32, 0#32)
  else
    (3#32, 256#32)
def k0_off6 : Fin 3 → Nat :=
  let c0_i32_161 : BitVec 32 := 0#32
  let c1_i32_1890 : BitVec 32 := 1#32
  let v3603 : BitVec 32 := Scalar.addi c0_i32_161 c1_i32_1890
  let c0_i32_1891 : BitVec 32 := 0#32
  let v3604 : BitVec 32 := Scalar.minsi v3603 c0_i32_1891
  let v3632 : Index := Scalar.indexCast v3604
  let c0_1907 : Index := 0#32
  let c0_1908 : Index := 0#32
  ![v3632.toNat, 0, 0]
def k0_mult50 : BitVec 32 :=
  let c0_i32_161 : BitVec 32 := 0#32
  let c1_i32_1932 : BitVec 32 := 1#32
  let v3681 : BitVec 32 := Scalar.addi c0_i32_161 c1_i32_1932
  let c0_i32_1933 : BitVec 32 := 0#32
  let v3682 : BitVec 32 := Scalar.minsi v3681 c0_i32_1933
  let c16_i32_1934 : BitVec 32 := 16#32
  let v3683 : BitVec 32 := Scalar.muli v3682 c16_i32_1934
  let c3_i32_1935 : BitVec 32 := 3#32
  let v3684 : BitVec 32 := Scalar.addi v3683 c3_i32_1935
  let c2_i32_1936 : BitVec 32 := 2#32
  let v3685 : BitVec 32 := Scalar.subi v3684 c2_i32_1936
  let c0_i32_1937 : BitVec 32 := 0#32
  let v3686 : BitVec 32 := Scalar.maxsi v3685 c0_i32_1937
  let c0_i32_1939 : BitVec 32 := 0#32
  let v3688 : BitVec 1 := Scalar.cmpi .sgt v3686 c0_i32_1939
  let v3689 : BitVec 32 := Scalar.extui v3688
  let c0_i32_1940 : BitVec 32 := 0#32
  let v3690 : BitVec 1 := Scalar.cmpi .slt v3686 c0_i32_1940
  let v3691 : BitVec 32 := Scalar.extui v3690
  let v3692 : BitVec 32 := Scalar.subi v3689 v3691
  let c2_i32_1938 : BitVec 32 := 2#32
  let c0_i32_1941 : BitVec 32 := 0#32
  let v3693 : BitVec 1 := Scalar.cmpi .sgt c2_i32_1938 c0_i32_1941
  let v3694 : BitVec 32 := Scalar.extui v3693
  let c0_i32_1942 : BitVec 32 := 0#32
  let v3695 : BitVec 1 := Scalar.cmpi .slt c2_i32_1938 c0_i32_1942
  let v3696 : BitVec 32 := Scalar.extui v3695
  let v3697 : BitVec 32 := Scalar.subi v3694 v3696
  let v3698 : BitVec 1 := Scalar.cmpi .ne v3692 v3697
  let v3699 : BitVec 32 := Scalar.remsi v3686 c2_i32_1938
  let c0_i32_1943 : BitVec 32 := 0#32
  let v3700 : BitVec 1 := Scalar.cmpi .ne v3699 c0_i32_1943
  let v3701 : BitVec 1 := Scalar.andi v3698 v3700
  let v3687 : BitVec 32 := Scalar.divsi v3686 c2_i32_1938
  let c1_i32_1944 : BitVec 32 := 1#32
  let v3702 : BitVec 32 := Scalar.subi v3687 c1_i32_1944
  let v3703 : BitVec 32 := Scalar.select v3701 v3702 v3687
  let c512_i32_1945 : BitVec 32 := 512#32
  let v3704 : BitVec 32 := Scalar.muli v3703 c512_i32_1945
  let c256_i32_1946 : BitVec 32 := 256#32
  let v3705 : BitVec 32 := Scalar.addi v3704 c256_i32_1946
  v3705
def k0_off7 : Fin 3 → Nat :=
  let c0_i32_161 : BitVec 32 := 0#32
  let c1_i32_1932 : BitVec 32 := 1#32
  let v3681 : BitVec 32 := Scalar.addi c0_i32_161 c1_i32_1932
  let c0_i32_1933 : BitVec 32 := 0#32
  let v3682 : BitVec 32 := Scalar.minsi v3681 c0_i32_1933
  let v3710 : Index := Scalar.indexCast v3682
  let c0_1949 : Index := 0#32
  let c512_1950 : Index := 512#32
  ![v3710.toNat, 0, 512]
def k0_mult51 : BitVec 32 :=
  let c0_i32_161 : BitVec 32 := 0#32
  let c8_i32_1974 : BitVec 32 := 8#32
  let v3906 : BitVec 32 := Scalar.muli c0_i32_161 c8_i32_1974
  let c0_i32_1975 : BitVec 32 := 0#32
  let v3907 : BitVec 32 := Scalar.addi v3906 c0_i32_1975
  let c512_i32_1976 : BitVec 32 := 512#32
  let v3908 : BitVec 32 := Scalar.muli v3907 c512_i32_1976
  v3908
def k0_off8 (c0_i32_1975 : BitVec 32) : Fin 3 → Nat :=
  let c0_1977 : Index := 0#32
  let c0_i32_161 : BitVec 32 := 0#32
  let c8_i32_1974 : BitVec 32 := 8#32
  let v3906 : BitVec 32 := Scalar.muli c0_i32_161 c8_i32_1974
  let v3907 : BitVec 32 := Scalar.addi v3906 c0_i32_1975
  let c512_i32_1976 : BitVec 32 := 512#32
  let v3908 : BitVec 32 := Scalar.muli v3907 c512_i32_1976
  let v3909 : BitVec 32 := v3908
  let v3910 : Index := Scalar.indexCast v3909
  let c0_1978 : Index := 0#32
  ![0, v3910.toNat, 0]
def k0_mult52 : BitVec 32 :=
  let c0_i32_161 : BitVec 32 := 0#32
  let c8_i32_1979 : BitVec 32 := 8#32
  let v3917 : BitVec 32 := Scalar.muli c0_i32_161 c8_i32_1979
  let c1_i32_1980 : BitVec 32 := 1#32
  let v3918 : BitVec 32 := Scalar.addi v3917 c1_i32_1980
  let c512_i32_1981 : BitVec 32 := 512#32
  let v3919 : BitVec 32 := Scalar.muli v3918 c512_i32_1981
  v3919
def k0_mult53 : BitVec 32 :=
  let c0_i32_161 : BitVec 32 := 0#32
  let c8_i32_1984 : BitVec 32 := 8#32
  let v3928 : BitVec 32 := Scalar.muli c0_i32_161 c8_i32_1984
  let c2_i32_1985 : BitVec 32 := 2#32
  let v3929 : BitVec 32 := Scalar.addi v3928 c2_i32_1985
  let c512_i32_1986 : BitVec 32 := 512#32
  let v3930 : BitVec 32 := Scalar.muli v3929 c512_i32_1986
  v3930
def k0_mult54 : BitVec 32 :=
  let c0_i32_161 : BitVec 32 := 0#32
  let c8_i32_1989 : BitVec 32 := 8#32
  let v3939 : BitVec 32 := Scalar.muli c0_i32_161 c8_i32_1989
  let c3_i32_1990 : BitVec 32 := 3#32
  let v3940 : BitVec 32 := Scalar.addi v3939 c3_i32_1990
  let c512_i32_1991 : BitVec 32 := 512#32
  let v3941 : BitVec 32 := Scalar.muli v3940 c512_i32_1991
  v3941
def k0_mult55 : BitVec 32 :=
  let c0_i32_161 : BitVec 32 := 0#32
  let c8_i32_1994 : BitVec 32 := 8#32
  let v3950 : BitVec 32 := Scalar.muli c0_i32_161 c8_i32_1994
  let c4_i32_1995 : BitVec 32 := 4#32
  let v3951 : BitVec 32 := Scalar.addi v3950 c4_i32_1995
  let c512_i32_1996 : BitVec 32 := 512#32
  let v3952 : BitVec 32 := Scalar.muli v3951 c512_i32_1996
  v3952
def k0_mult56 : BitVec 32 :=
  let c0_i32_161 : BitVec 32 := 0#32
  let c8_i32_1999 : BitVec 32 := 8#32
  let v3961 : BitVec 32 := Scalar.muli c0_i32_161 c8_i32_1999
  let c5_i32_2000 : BitVec 32 := 5#32
  let v3962 : BitVec 32 := Scalar.addi v3961 c5_i32_2000
  let c512_i32_2001 : BitVec 32 := 512#32
  let v3963 : BitVec 32 := Scalar.muli v3962 c512_i32_2001
  v3963
def k0_mult57 : BitVec 32 :=
  let c0_i32_161 : BitVec 32 := 0#32
  let c8_i32_2004 : BitVec 32 := 8#32
  let v3972 : BitVec 32 := Scalar.muli c0_i32_161 c8_i32_2004
  let c6_i32_2005 : BitVec 32 := 6#32
  let v3973 : BitVec 32 := Scalar.addi v3972 c6_i32_2005
  let c512_i32_2006 : BitVec 32 := 512#32
  let v3974 : BitVec 32 := Scalar.muli v3973 c512_i32_2006
  v3974
def k0_mult58 : BitVec 32 :=
  let c0_i32_161 : BitVec 32 := 0#32
  let c8_i32_2009 : BitVec 32 := 8#32
  let v3983 : BitVec 32 := Scalar.muli c0_i32_161 c8_i32_2009
  let c7_i32_2010 : BitVec 32 := 7#32
  let v3984 : BitVec 32 := Scalar.addi v3983 c7_i32_2010
  let c512_i32_2011 : BitVec 32 := 512#32
  let v3985 : BitVec 32 := Scalar.muli v3984 c512_i32_2011
  v3985
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qk_scale" => some (((1 / 8) * (Real.log 2)⁻¹ : ℝ) : EReal)
  | _ => none
-- ==== ReferenceIdeal.lean ====
abbrev S8x4096x8x64 : Shape := ⟨4, ![8, 4096, 8, 64]⟩
abbrev S8x257 : Shape := ⟨2, ![8, 257]⟩
abbrev S8x64x64x8x64 : Shape := ⟨5, ![8, 64, 64, 8, 64]⟩
abbrev S_ : Shape := ⟨0, ![]⟩
abbrev S8x72x64x8x64 : Shape := ⟨5, ![8, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S8x64x9x64x8x64 : Shape := ⟨6, ![8, 64, 9, 64, 8, 64]⟩
abbrev S8x64x576x8x64 : Shape := ⟨5, ![8, 64, 576, 8, 64]⟩
abbrev S8x64x8x64x576 : Shape := ⟨5, ![8, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S64x9x64 : Shape := ⟨3, ![64, 9, 64]⟩
abbrev S1x64x1x1x576 : Shape := ⟨5, ![1, 64, 1, 1, 576]⟩
abbrev S8x64x8x64 : Shape := ⟨4, ![8, 64, 8, 64]⟩
abbrev S8x64x8x64x1 : Shape := ⟨5, ![8, 64, 8, 64, 1]⟩
abbrev S8x64x8x64x64 : Shape := ⟨5, ![8, 64, 8, 64, 64]⟩
abbrev S8x4096x512 : Shape := ⟨3, ![8, 4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x257, .f32⟩
  | .hbm, ⟨4, _⟩ => ⟨S8x64x64x8x64, .f32⟩
  | .hbm, ⟨5, _⟩ => ⟨S8x64x64x8x64, .f32⟩
  | .hbm, ⟨6, _⟩ => ⟨S_, .i32⟩
  | .hbm, ⟨7, _⟩ => ⟨S_, .f32⟩
  | .hbm, ⟨8, _⟩ => ⟨S8x72x64x8x64, .f32⟩
  | .hbm, ⟨9, _⟩ => ⟨S8x64x64x8x64, .f32⟩
  | .hbm, ⟨10, _⟩ => ⟨S_, .i32⟩
  | .hbm, ⟨11, _⟩ => ⟨S_, .f32⟩
  | .hbm, ⟨12, _⟩ => ⟨S8x72x64x8x64, .f32⟩
  | .hbm, ⟨13, _⟩ => ⟨S64, .i32⟩
  | .hbm, ⟨14, _⟩ => ⟨S64x1, .i32⟩
  | .hbm, ⟨15, _⟩ => ⟨S9, .i32⟩
  | .hbm, ⟨16, _⟩ => ⟨S1x9, .i32⟩
  | .hbm, ⟨17, _⟩ => ⟨S64x9, .i32⟩
  | .hbm, ⟨18, _⟩ => ⟨S64x9, .i32⟩
  | .hbm, ⟨19, _⟩ => ⟨S64x9, .i32⟩
  | .hbm, ⟨20, _⟩ => ⟨S_, .i32⟩
  | .hbm, ⟨21, _⟩ => ⟨S64x9, .i32⟩
  | .hbm, ⟨22, _⟩ => ⟨S64x9, .i1⟩
  | .hbm, ⟨23, _⟩ => ⟨S_, .i32⟩
  | .hbm, ⟨24, _⟩ => ⟨S64x9, .i32⟩
  | .hbm, ⟨25, _⟩ => ⟨S64x9, .i32⟩
  | .hbm, ⟨26, _⟩ => ⟨S64x9, .i32⟩
  | .hbm, ⟨27, _⟩ => ⟨S64x9x1, .i32⟩
  | .hbm, ⟨28, _⟩ => ⟨S8x64x9x64x8x64, .f32⟩
  | .hbm, ⟨29, _⟩ => ⟨S8x64x576x8x64, .f32⟩
  | .hbm, ⟨30, _⟩ => ⟨S_, .i32⟩
  | .hbm, ⟨31, _⟩ => ⟨S64x9, .i32⟩
  | .hbm, ⟨32, _⟩ => ⟨S64x9, .i1⟩
  | .hbm, ⟨33, _⟩ => ⟨S_, .i32⟩
  | .hbm, ⟨34, _⟩ => ⟨S64x9, .i32⟩
  | .hbm, ⟨35, _⟩ => ⟨S64x9, .i32⟩
  | .hbm, ⟨36, _⟩ => ⟨S64x9, .i32⟩
  | .hbm, ⟨37, _⟩ => ⟨S64x9x1, .i32⟩
  | .hbm, ⟨38, _⟩ => ⟨S8x64x9x64x8x64, .f32⟩
  | .hbm, ⟨39, _⟩ => ⟨S8x64x576x8x64, .f32⟩
  | .hbm, ⟨40, _⟩ => ⟨S8x64x8x64x576, .f32⟩
  | .hbm, ⟨41, _⟩ => ⟨S_, .f32⟩
  | .hbm, ⟨42, _⟩ => ⟨S8x64x8x64x576, .f32⟩
  | .hbm, ⟨43, _⟩ => ⟨S8x64x8x64x576, .f32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S576, .i32⟩
  | .hbm, ⟨49, _⟩ => ⟨S64x1, .i32⟩
  | .hbm, ⟨50, _⟩ => ⟨S1x576, .i32⟩
  | .hbm, ⟨51, _⟩ => ⟨S64x576, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i1⟩
  | .hbm, ⟨68, _⟩ => ⟨S_, .i32⟩
  | .hbm, ⟨69, _⟩ => ⟨S64x576, .i32⟩
  | .hbm, ⟨70, _⟩ => ⟨S64x576, .i32⟩
  | .hbm, ⟨71, _⟩ => ⟨S64x576, .i32⟩
  | .hbm, ⟨72, _⟩ => ⟨S64x576x1, .i32⟩
  | .hbm, ⟨73, _⟩ => ⟨S8x64x576, .f32⟩
  | .hbm, ⟨74, _⟩ => ⟨S1x1x8x64x576, .f32⟩
  | .hbm, ⟨75, _⟩ => ⟨S8x64x8x64x576, .f32⟩
  | .hbm, ⟨76, _⟩ => ⟨S8x64x8x64x576, .f32⟩
  | .hbm, ⟨77, _⟩ => ⟨S_, .i32⟩
  | .hbm, ⟨78, _⟩ => ⟨S64x9, .i32⟩
  | .hbm, ⟨79, _⟩ => ⟨S64x9, .i1⟩
  | .hbm, ⟨80, _⟩ => ⟨S64x9x64, .i1⟩
  | .hbm, ⟨81, _⟩ => ⟨S64x576, .i1⟩
  | .hbm, ⟨82, _⟩ => ⟨S1x64x1x1x576, .i1⟩
  | .hbm, ⟨83, _⟩ => ⟨S_, .f32⟩
  | .hbm, ⟨84, _⟩ => ⟨S_, .f32⟩
  | .hbm, ⟨85, _⟩ => ⟨S8x64x8x64x576, .i1⟩
  | .hbm, ⟨86, _⟩ => ⟨S8x64x8x64x576, .f32⟩
  | .hbm, ⟨87, _⟩ => ⟨S8x64x8x64x576, .f32⟩
  | .hbm, ⟨88, _⟩ => ⟨S_, .f32⟩
  | .hbm, ⟨89, _⟩ => ⟨S8x64x8x64, .f32⟩
  | .hbm, ⟨90, _⟩ => ⟨S_, .f32⟩
  | .hbm, ⟨91, _⟩ => ⟨S8x64x8x64, .f32⟩
  | .hbm, ⟨92, _⟩ => ⟨S8x64x8x64, .f32⟩
  | .hbm, ⟨93, _⟩ => ⟨S8x64x8x64x1, .f32⟩
  | .hbm, ⟨94, _⟩ => ⟨S8x64x8x64x576, .f32⟩
  | .hbm, ⟨95, _⟩ => ⟨S8x64x8x64x576, .f32⟩
  | .hbm, ⟨96, _⟩ => ⟨S8x64x8x64x576, .f32⟩
  | .hbm, ⟨97, _⟩ => ⟨S_, .f32⟩
  | .hbm, ⟨98, _⟩ => ⟨S8x64x8x64, .f32⟩
  | .hbm, ⟨99, _⟩ => ⟨S8x64x8x64x1, .f32⟩
  | .hbm, ⟨100, _⟩ => ⟨S8x64x8x64x576, .f32⟩
  | .hbm, ⟨101, _⟩ => ⟨S8x64x8x64x576, .f32⟩
  | .hbm, ⟨102, _⟩ => ⟨S8x64x8x64x64, .f32⟩
  | .hbm, ⟨103, _⟩ => ⟨S8x64x64x8x64, .f32⟩
  | .hbm, ⟨104, _⟩ => ⟨S8x4096x512, .f32⟩
  | .hbm, ⟨105, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_c_7 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x768 : Shape := ⟨2, ![1024, 768]⟩
abbrev S1024x512 : Shape := ⟨2, ![1024, 512]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x3584 : Shape := ⟨2, ![1024, 3584]⟩
abbrev S1024x3072 : Shape := ⟨2, ![1024, 3072]⟩
abbrev S1536x1024 : Shape := ⟨2, ![1536, 1024]⟩
abbrev S1024x1024 : Shape := ⟨2, ![1024, 1024]⟩
abbrev S32768x1024 : Shape := ⟨2, ![32768, 1024]⟩
abbrev S1x1024 : Shape := ⟨2, ![1, 1024]⟩
abbrev S32x2816 : Shape := ⟨2, ![32, 2816]⟩
abbrev S176x1024 : Shape := ⟨2, ![176, 1024]⟩
abbrev S32x3584 : Shape := ⟨2, ![32, 3584]⟩
abbrev S32x3072 : Shape := ⟨2, ![32, 3072]⟩
abbrev S48x1024 : Shape := ⟨2, ![48, 1024]⟩
abbrev S32x1024 : Shape := ⟨2, ![32, 1024]⟩
abbrev S1024x1 : Shape := ⟨2, ![1024, 1]⟩
abbrev S1024x768 : Shape := ⟨2, ![1024, 768]⟩
abbrev S1024x512 : Shape := ⟨2, ![1024, 512]⟩

abbrev nBuf : Space → Nat
  | .hbm => 25
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x3584, .f32⟩
  | .hbm, ⟨9, _⟩ => ⟨S1024x3072, .f32⟩
  | .hbm, ⟨10, _⟩ => ⟨S1536x1024, .f32⟩
  | .hbm, ⟨11, _⟩ => ⟨S1024x1024, .f32⟩
  | .hbm, ⟨12, _⟩ => ⟨S32768x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S32768x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1024x3584, .bf16⟩
  | .hbm, ⟨22, _⟩ => ⟨S1024x3072, .bf16⟩
  | .hbm, ⟨23, _⟩ => ⟨S1536x1024, .bf16⟩
  | .hbm, ⟨24, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S32x2816, .f32⟩
  | .local _ .vmem, ⟨7, _⟩ => ⟨S32x2816, .f32⟩
  | .local _ .vmem, ⟨8, _⟩ => ⟨S32x2816, .f32⟩
  | .local _ .vmem, ⟨9, _⟩ => ⟨S32x2816, .f32⟩
  | .local _ .vmem, ⟨10, _⟩ => ⟨S176x1024, .f32⟩
  | .local _ .vmem, ⟨11, _⟩ => ⟨S176x1024, .f32⟩
  | .local _ .vmem, ⟨12, _⟩ => ⟨S32x3584, .f32⟩
  | .local _ .vmem, ⟨13, _⟩ => ⟨S32x3584, .f32⟩
  | .local _ .vmem, ⟨14, _⟩ => ⟨S32x3072, .f32⟩
  | .local _ .vmem, ⟨15, _⟩ => ⟨S32x3072, .f32⟩
  | .local _ .vmem, ⟨16, _⟩ => ⟨S48x1024, .f32⟩
  | .local _ .vmem, ⟨17, _⟩ => ⟨S48x1024, .f32⟩
  | .local _ .vmem, ⟨18, _⟩ => ⟨S32x1024, .f32⟩
  | .local _ .vmem, ⟨19, _⟩ => ⟨S32x1024, .f32⟩
  | .local _ .vmem, ⟨20, _⟩ => ⟨S1024x1024, .f32⟩
  | .local _ .vmem, ⟨21, _⟩ => ⟨S1024x1024, .f32⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S32x2816, .bf16⟩
  | .local _ .vmem, ⟨26, _⟩ => ⟨S176x1024, .bf16⟩
  | .local _ .vmem, ⟨27, _⟩ => ⟨S176x1024, .bf16⟩
  | .local _ .vmem, ⟨28, _⟩ => ⟨S32x3584, .bf16⟩
  | .local _ .vmem, ⟨29, _⟩ => ⟨S32x3584, .bf16⟩
  | .local _ .vmem, ⟨30, _⟩ => ⟨S32x3072, .bf16⟩
  | .local _ .vmem, ⟨31, _⟩ => ⟨S32x3072, .bf16⟩
  | .local _ .vmem, ⟨32, _⟩ => ⟨S48x1024, .bf16⟩
  | .local _ .vmem, ⟨33, _⟩ => ⟨S48x1024, .bf16⟩
  | .local _ .vmem, ⟨34, _⟩ => ⟨S32x1024, .bf16⟩
  | .local _ .vmem, ⟨35, _⟩ => ⟨S32x1024, .bf16⟩
  | .local _ .vmem, ⟨36, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_7 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_14 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_17 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S48x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S48x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x3584 : Shape := ⟨2, ![1024, 3584]⟩
abbrev S1024x3072 : Shape := ⟨2, ![1024, 3072]⟩
abbrev S1536x1024 : Shape := ⟨2, ![1536, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x3584, .f32⟩
  | .hbm, ⟨9, _⟩ => ⟨S1024x3072, .f32⟩
  | .hbm, ⟨10, _⟩ => ⟨S1536x1024, .f32⟩
  | .hbm, ⟨11, _⟩ => ⟨S1024x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩

abbrev nD : Nat := 1
abbrev τ : Topo := Topo.v7x

variable {F : FTy → Type} [FloatOps F]
-- ==== Proof.Ffn.lean ====
/- One row of the feed-forward half step, over the reals with infinities. -/
module

public import Idealize.ShloMosaic.Lib.Pointwise

@[expose] public section

noncomputable section

namespace Cert.Ffn

open Idealize.ShloMosaic

/-- Root mean square normalisation of a row. -/
def rms (x g : Fin 1024 → EReal) (d : Fin 1024) : EReal :=
  x d * Ideal.rsqrt (Ideal.div (∑ e, x e * x e) (Ideal.ofBits .f32 0x44800000#32) + Ideal.ofBits .f32 0x358637BD#32) * g d

/-- One gated hidden unit. -/
def unit (h wg wu : Fin 1024 → EReal) : EReal :=
  (∑ l, h l * wg l) * Ideal.div (Ideal.ofBits .f32 0x3F800000#32) (Ideal.ofBits .f32 0x3F800000#32 + Ideal.exp (-∑ l, h l * wg l))
    * ∑ l, h l * wu l

/-- The row with half of the hidden units' product added. -/
def half (x : Fin 1024 → EReal) (a : Fin 2816 → EReal) (wd : Fin 2816 → Fin 1024 → EReal) (d : Fin 1024) : EReal :=
  x d + Ideal.ofBits .f32 0x3F000000#32 * ∑ f, a f * wd f d

/-- The half step and the norm that ends the block. -/
def row (x g : Fin 1024 → EReal) (wg wu : Fin 1024 → Fin 2816 → EReal) (wd : Fin 2816 → Fin 1024 → EReal) (fg : Fin 1024 → EReal)
    (d : Fin 1024) : EReal :=
  rms (half x (fun f => unit (rms x g) (fun l => wg l f) (fun l => wu l f)) wd) fg d

/-- The half step alone. -/
def halfRow (x g : Fin 1024 → EReal) (wg wu : Fin 1024 → Fin 2816 → EReal) (wd : Fin 2816 → Fin 1024 → EReal) (d : Fin 1024) : EReal :=
  half x (fun f => unit (rms x g) (fun l => wg l f) (fun l => wu l f)) wd d

end Cert.Ffn

end
-- ==== Proof.FfnKernel.lean ====
/- The last feed-forward kernel's payloads read at an element. -/
module

public import proofs.«01_k».proof.Proof.Gen.Kernel2Ideal.Value
public import Idealize.ShloMosaic.Lib.Pipeline.ValueKit
public import Idealize.ShloMosaic.Lib.Pointwise
public import Idealize.ShloMosaic.Lib.Pipeline.ReadBack
public import proofs.«01_k».proof.Proof.Ffn

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Ffn

theorem pay2_eq (x : Vec Ideal S1024x1024 .f32) : k0_pay2 x = x := shapeCast_self _ _

theorem pay5_eq (x : Vec Ideal S1024x768 .bf16) : k0_pay5 x = x := shapeCast_self _ _

theorem pay3_at (x : Vec Ideal S1024x1024 .f32) (g : Vec Ideal S1x1024 .f32) (p d : Fin 1024) :
    (k0_pay3 x g (ix2 p d) : EReal) = rms (fun e => x (ix2 p e)) (fun e => g (ix2 0 e)) d := by
  pointwise [k0_pay3, k0_pay2, rms]

theorem pay4_at (x : Vec Ideal S1024x1024 .f32) (g : Vec Ideal S1x1024 .f32) (wg wu : Vec Ideal S1024x768 .bf16) (p : Fin 1024) (f : Fin 768) :
    (k0_pay4 x g wg wu (ix2 p f) : EReal)
      = unit (fun l => k0_pay3 x g (ix2 p l)) (fun l => wg (ix2 l f)) (fun l => wu (ix2 l f)) := by
  unfold k0_pay4
  generalize k0_pay3 x g = h
  pointwise [unit, zero_sub]

theorem pay6_at (h : FVec Ideal S1024x1024 .bf16) (wg wu : Vec Ideal S1024x768 .bf16) (p : Fin 1024) (f : Fin 768) :
    (k0_pay6 h wg wu (ix2 p f) : EReal) = unit (fun l => h (ix2 p l)) (fun l => wg (ix2 l f)) (fun l => wu (ix2 l f)) := by
  pointwise [k0_pay6, unit, zero_sub]

theorem pay7_at (h : FVec Ideal S1024x1024 .bf16) (wg wu : Vec Ideal S1024x768 .bf16) (p : Fin 1024) (f : Fin 768) :
    (k0_pay7 h wg wu (ix2 p f) : EReal) = unit (fun l => h (ix2 p l)) (fun l => wg (ix2 l f)) (fun l => wu (ix2 l f)) := by
  pointwise [k0_pay7, unit, zero_sub]

theorem pay8_at (h : FVec Ideal S1024x1024 .bf16) (wg wu : Vec Ideal S1024x512 .bf16) (p : Fin 1024) (f : Fin 512) :
    (k0_pay8 h wg wu (ix2 p f) : EReal) = unit (fun l => h (ix2 p l)) (fun l => wg (ix2 l f)) (fun l => wu (ix2 l f)) := by
  pointwise [k0_pay8, unit, zero_sub]

theorem out_at (x : FVec Ideal S1024x1024 .f32) (a : Vec Ideal S1024x2816 .bf16) (wd : Vec Ideal S2816x1024 .bf16) (fg : Vec Ideal S1x1024 .f32)
    (p d : Fin 1024) : (k0_pay1 (k0_pay9 x a wd) (k0_pay10 fg) (ix2 p d) : EReal)
      = rms (half (fun e => x (ix2 p e)) (fun f => a (ix2 p f)) (fun f d => wd (ix2 f d))) (fun e => fg (ix2 0 e)) d := by
  pointwise [k0_pay1, k0_pay9, k0_pay10, rms, half]

/-- A load of a rectangle of a two-axis array. -/
theorem ld_col {n : ℕ} (w : Vec Ideal S1024x2816 .bf16) (o : ℕ) (inb) (l : Fin 1024) (f : Fin n) (h : o + f < 2816) :
    (View.ld w (Rect.unit (s := S1024x2816) ![0, o] ![1024, n] inb) (ix2 l f) : EReal) = w (ix2 l ⟨o + f, h⟩) := by
  pointwise

/-- A load of the whole scratch buffer reads what its stores left. -/
theorem read_all (L : List (View.Piece (Elt Ideal) S1024x2816 .bf16)) : (View.whole cc0_scratch0).readCov L
    (Rect.unit (s := S1024x2816) ![0, 0] ![1024, 2816] inb_S1024x2816_S1024x2816_0_0).toLoadRect = View.canon L :=
  (View.readCov_eq_canon' _ L _).trans (View.ld_unit_lit (S := S1024x2816) inb_S1024x2816_S1024x2816_0_0 (View.canon L) (by decide))

theorem mem_cols {n o : ℕ} (inb) (y : S1024x2816.Idx) (h : o ≤ (y 1).val ∧ (y 1).val < o + n) :
    y ∈ (Rect.unit (s := S1024x2816) ![0, o] ![1024, n] inb).set :=
  Rect.mem_set_unit.2 fun a => by
    fin_cases a
    · exact ⟨Nat.zero_le _, (y 0).isLt.trans_eq (Nat.zero_add _).symm⟩
    · exact h

/-- A hidden unit of a stretch of columns is the hidden unit of the whole. -/
theorem unit_of (x : Vec Ideal S1024x1024 .f32) (g : Vec Ideal S1x1024 .f32) (wg wu : Vec Ideal S1024x2816 .bf16) (y : S1024x2816.Idx)
    {n : ℕ} (o : ℕ) (inb inb') (p : Fin 1024) (f : Fin n) (h0 : (y 0).val = p) (h1 : (y 1).val = o + f) :
    unit (fun l => k0_pay3 x g (ix2 p l)) (fun l => View.ld wg (Rect.unit (s := S1024x2816) ![0, o] ![1024, n] inb) (ix2 l f))
      (fun l => View.ld wu (Rect.unit (s := S1024x2816) ![0, o] ![1024, n] inb') (ix2 l f))
    = unit (fun l => rms (fun e => x (ix2 (y 0) e)) (fun e => g (ix2 0 e)) l) (fun l => wg (ix2 l (y 1))) (fun l => wu (ix2 l (y 1))) := by
  have hy : (y 1).val < 2816 := (y 1).isLt
  obtain ⟨a, b, rfl⟩ : ∃ (a : Fin 1024) (b : Fin 2816), y = ix2 a b := ⟨y 0, y 1, eq_ix2 y⟩
  obtain rfl : a = p := Fin.ext h0
  have hb : o + f < 2816 := h1 ▸ hy
  have e : (⟨o + f, hb⟩ : Fin 2816) = b := (Fin.ext h1).symm
  have e1 := fun l => pay3_at x g a l
  have e2 := fun l => (ld_col wg o inb l f hb).trans (congrArg (fun b => wg (ix2 l b)) e)
  have e3 := fun l => (ld_col wu o inb' l f hb).trans (congrArg (fun b => wu (ix2 l b)) e)
  exact congr (congr (congrArg unit (funext e1)) (funext e2)) (funext e3)

/-- The hidden units, as their four stores leave them. -/
theorem hidden_read (x : Vec Ideal S1024x1024 .f32) (g : Vec Ideal S1x1024 .f32) (wg wu : Vec Ideal S1024x2816 .bf16) (y : S1024x2816.Idx) :
    (View.canon (Val := Elt Ideal) (s := S1024x2816) (e := .bf16)
          [⟨Rect.unit ![0, 2304] ![1024, 512] inb_S1024x2816_S1024x512_0_2304,
              k0_pay8 (k0_pay3 x g)
                (View.ld wg (Rect.unit ![0, 2304] ![1024, 512] inb_S1024x2816_S1024x512_0_2304))
                (View.ld wu (Rect.unit ![0, 2304] ![1024, 512] inb_S1024x2816_S1024x512_0_2304))⟩,
            ⟨Rect.unit ![0, 1536] ![1024, 768] inb_S1024x2816_S1024x768_0_1536,
              k0_pay7 (k0_pay3 x g)
                (View.ld wg (Rect.unit ![0, 1536] ![1024, 768] inb_S1024x2816_S1024x768_0_1536))
                (View.ld wu (Rect.unit ![0, 1536] ![1024, 768] inb_S1024x2816_S1024x768_0_1536))⟩,
            ⟨Rect.unit ![0, 768] ![1024, 768] inb_S1024x2816_S1024x768_0_768,
              k0_pay6 (k0_pay3 x g)
                (k0_pay5 (View.ld wg (Rect.unit ![0, 768] ![1024, 768] inb_S1024x2816_S1024x768_0_768)))
                (View.ld wu (Rect.unit ![0, 768] ![1024, 768] inb_S1024x2816_S1024x768_0_768))⟩,
            ⟨Rect.unit ![0, 0] ![1024, 768] inb_S1024x2816_S1024x768_0_0,
              k0_pay4 x g
                (View.ld wg (Rect.unit ![0, 0] ![1024, 768] inb_S1024x2816_S1024x768_0_0))
                (View.ld wu (Rect.unit ![0, 0] ![1024, 768] inb_S1024x2816_S1024x768_0_0))⟩]
          y : EReal)
      = unit (fun l => rms (fun e => x (ix2 (y 0) e)) (fun e => g (ix2 0 e)) l) (fun l => wg (ix2 l (y 1))) (fun l => wu (ix2 l (y 1))) := by
  have hy : (y 1).val < 2816 := (y 1).isLt
  canon_tiles z h using by
    by_cases h1 : (y 1).val < 768
    · exact ⟨_, .tail _ (.tail _ (.tail _ (.head _))), mem_cols (by decide) y (by omega)⟩
    by_cases h2 : (y 1).val < 1536
    · exact ⟨_, .tail _ (.tail _ (.head _)), mem_cols (by decide) y (by omega)⟩
    by_cases h3 : (y 1).val < 2304
    · exact ⟨_, .tail _ (.head _), mem_cols (by decide) y (by omega)⟩
    · exact ⟨_, .head _, mem_cols (by decide) y (by omega)⟩
  all_goals idx_vars z
  · exact (pay8_at _ _ _ z0 z1).trans (unit_of x g wg wu y _ _ _ z0 z1 h0 h1)
  · exact (pay7_at _ _ _ z0 z1).trans (unit_of x g wg wu y _ _ _ z0 z1 h0 h1)
  · rw [pay5_eq]
    exact (pay6_at _ _ _ z0 z1).trans (unit_of x g wg wu y _ _ _ z0 z1 h0 h1)
  · exact (pay4_at _ _ _ _ z0 z1).trans (unit_of x g wg wu y _ _ _ z0 z1 h0 (h1.trans (Nat.zero_add _).symm))

end Cert.Kernel2Ideal.Ffn

end
-- ==== Proof.FfnReads.lean ====
/- What a grid point of the last feed-forward kernel reads: blocks of the arguments. -/
module

public import proofs.«01_k».proof.Proof.Gen.Kernel2Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

theorem V_x (c : Dev nD) (p : Fin 32768) (d : Fin 1024) : (V m c main_v0 : S32768x1024.Idx → EReal) (ix2 p d)
    = m ((c : Thread nD τ).loc main_arg0) (ix3 ⟨p / 4096, by omega⟩ ⟨p % 4096, by omega⟩ d) := by
  unfold V
  after_reads_simp
  pointwise

theorem V_n (c : Dev nD) (d : Fin 1024) : (V m c main_v1 : S1x1024.Idx → EReal) (ix2 0 d)
    = m ((c : Thread nD τ).loc main_arg1) (ix1 d) := by
  unfold V
  after_reads_simp
  pointwise

theorem V_wg (c : Dev nD) (l : Fin 1024) (f : Fin 2816) : (V m c main_v2 : S1024x2816.Idx → EReal) (ix2 l f)
    = m ((c : Thread nD τ).loc main_arg2) (ix2 l f) := by
  unfold V
  after_reads_simp
  pointwise

theorem V_wu (c : Dev nD) (l : Fin 1024) (f : Fin 2816) : (V m c main_v3 : S1024x2816.Idx → EReal) (ix2 l f)
    = m ((c : Thread nD τ).loc main_arg3) (ix2 l f) := by
  unfold V
  after_reads_simp
  pointwise

theorem V_wd (c : Dev nD) (f : Fin 2816) (d : Fin 1024) : (V m c main_v4 : S2816x1024.Idx → EReal) (ix2 f d)
    = m ((c : Thread nD τ).loc main_arg4) (ix2 f d) := by
  unfold V
  after_reads_simp
  pointwise

theorem V_fg (c : Dev nD) (d : Fin 1024) : (V m c main_v5 : S1x1024.Idx → EReal) (ix2 0 d)
    = m ((c : Thread nD τ).loc main_arg5) (ix1 d) := by
  unfold V
  after_reads_simp
  pointwise

theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem read_x (c : Dev nD) (t : Fin cfg0.grid.N) (p d : Fin 1024) (h : 1024 * (t : ℕ) + p < 32768) :
    (iblk m c 0 t : S1024x1024.Idx → EReal) (ix2 p d) = (V m c main_v0 : S32768x1024.Idx → EReal) (ix2 ⟨1024 * t.val + p, h⟩ d) := by
  show V m c main_v0 _ = V m c main_v0 _
  refine congrArg (V m c main_v0) ?_
  funext z
  apply Fin.ext
  fin_cases z <;> blk_simp [iblk, idx_val t]
  · show t.val * 1024 + (p : ℕ) = 1024 * t.val + p
    omega
  · rfl

theorem read_n (c : Dev nD) (t : Fin cfg0.grid.N) (d : Fin 1024) :
    (iblk m c 1 t : S1x1024.Idx → EReal) (ix2 0 d) = (V m c main_v1 : S1x1024.Idx → EReal) (ix2 0 d) := by
  show V m c main_v1 _ = V m c main_v1 _
  refine congrArg (V m c main_v1) ?_
  funext z
  apply Fin.ext
  fin_cases z <;> blk_simp [iblk, idx_val t] <;> rfl

theorem read_wg (c : Dev nD) (t : Fin cfg0.grid.N) (l : Fin 1024) (f : Fin 2816) :
    (iblk m c 2 t : S1024x2816.Idx → EReal) (ix2 l f) = (V m c main_v2 : S1024x2816.Idx → EReal) (ix2 l f) := by
  show V m c main_v2 _ = V m c main_v2 _
  refine congrArg (V m c main_v2) ?_
  funext z
  apply Fin.ext
  fin_cases z <;> blk_simp [iblk, idx_val t] <;> rfl

theorem read_wu (c : Dev nD) (t : Fin cfg0.grid.N) (l : Fin 1024) (f : Fin 2816) :
    (iblk m c 3 t : S1024x2816.Idx → EReal) (ix2 l f) = (V m c main_v3 : S1024x2816.Idx → EReal) (ix2 l f) := by
  show V m c main_v3 _ = V m c main_v3 _
  refine congrArg (V m c main_v3) ?_
  funext z
  apply Fin.ext
  fin_cases z <;> blk_simp [iblk, idx_val t] <;> rfl

theorem read_wd (c : Dev nD) (t : Fin cfg0.grid.N) (f : Fin 2816) (d : Fin 1024) :
    (iblk m c 4 t : S2816x1024.Idx → EReal) (ix2 f d) = (V m c main_v4 : S2816x1024.Idx → EReal) (ix2 f d) := by
  show V m c main_v4 _ = V m c main_v4 _
  refine congrArg (V m c main_v4) ?_
  funext z
  apply Fin.ext
  fin_cases z <;> blk_simp [iblk, idx_val t] <;> rfl

theorem read_fg (c : Dev nD) (t : Fin cfg0.grid.N) (d : Fin 1024) :
    (iblk m c 5 t : S1x1024.Idx → EReal) (ix2 0 d) = (V m c main_v5 : S1x1024.Idx → EReal) (ix2 0 d) := by
  show V m c main_v5 _ = V m c main_v5 _
  refine congrArg (V m c main_v5) ?_
  funext z
  apply Fin.ext
  fin_cases z <;> blk_simp [iblk, idx_val t] <;> rfl

end Cert.Kernel2Ideal.Ffn

end
-- ==== Proof.FfnFinal.lean ====
/- The last feed-forward kernel's result array is the half step and the final norm of its arguments. -/
module

public import proofs.«01_k».proof.Proof.FfnKernel
public import proofs.«01_k».proof.Proof.FfnReads

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

def xa (c : Dev nD) (b : Fin 8) (s : Fin 4096) (d : Fin 1024) : EReal := m ((c : Thread nD τ).loc main_arg0) (ix3 b s d)
def na (c : Dev nD) (d : Fin 1024) : EReal := m ((c : Thread nD τ).loc main_arg1) (ix1 d)
def ga (c : Dev nD) (l : Fin 1024) (f : Fin 2816) : EReal := m ((c : Thread nD τ).loc main_arg2) (ix2 l f)
def ua (c : Dev nD) (l : Fin 1024) (f : Fin 2816) : EReal := m ((c : Thread nD τ).loc main_arg3) (ix2 l f)
def da (c : Dev nD) (f : Fin 2816) (d : Fin 1024) : EReal := m ((c : Thread nD τ).loc main_arg4) (ix2 f d)
def fa (c : Dev nD) (d : Fin 1024) : EReal := m ((c : Thread nD τ).loc main_arg5) (ix1 d)

/-- Row `p` of the result. -/
def rowOf (c : Dev nD) (p : Fin 32768) (d : Fin 1024) : EReal :=
  row (xa m c ⟨p / 4096, by omega⟩ ⟨p % 4096, by omega⟩) (na m c) (ga m c) (ua m c) (da m c) (fa m c) d

def OUT (c : Dev nD) : Buf (Elt Ideal) ((c : Thread nD τ).loc main_v6) := fun y => rowOf m c (y 0) (y 1)

/-- What a grid point writes at an element of its block. -/
theorem out_point (c : Dev nD) (t : Fin cfg0.grid.N) (p d : Fin 1024) (h : 1024 * (t : ℕ) + p < 32768) :
    (outsAt0 m c t (ix2 p d) : EReal) = rowOf m c ⟨1024 * t.val + p, h⟩ d := by
  unfold Gen.outsAt0
  frame_out
  rw [read_all, pay2_eq]
  refine (out_at _ _ _ _ p d).trans ?_
  have ex : (fun e => (iblk m c 0 t : S1024x1024.Idx → EReal) (ix2 p e)) = xa m c ⟨(1024 * t.val + p) / 4096, by omega⟩ ⟨(1024 * t.val + p) % 4096, by omega⟩ :=
    funext fun e => (read_x m c t p e h).trans (V_x m c ⟨1024 * t.val + p, h⟩ e)
  have en : (fun e => (iblk m c 1 t : S1x1024.Idx → EReal) (ix2 0 e)) = na m c := funext fun e => (read_n m c t e).trans (V_n m c e)
  have eg : ∀ f, (fun l => (iblk m c 2 t : S1024x2816.Idx → EReal) (ix2 l f)) = fun l => ga m c l f :=
    fun f => funext fun l => (read_wg m c t l f).trans (V_wg m c l f)
  have eu : ∀ f, (fun l => (iblk m c 3 t : S1024x2816.Idx → EReal) (ix2 l f)) = fun l => ua m c l f :=
    fun f => funext fun l => (read_wu m c t l f).trans (V_wu m c l f)
  have ed : (fun (f : Fin 2816) (d : Fin 1024) => (iblk m c 4 t : S2816x1024.Idx → EReal) (ix2 f d)) = da m c :=
    funext fun f => funext fun d => (read_wd m c t f d).trans (V_wd m c f d)
  have ef : (fun e => (iblk m c 5 t : S1x1024.Idx → EReal) (ix2 0 e)) = fa m c := funext fun e => (read_fg m c t e).trans (V_fg m c e)
  have eh := fun f : Fin 2816 => hidden_read (iblk m c 0 t) (iblk m c 1 t) (iblk m c 2 t) (iblk m c 3 t) (ix2 p f)
  refine (congr (congr (congrArg rms (congr (congr (congrArg half ex) (funext fun f => (eh f).trans ?_)) ed)) ef) rfl).trans rfl
  exact congr (congr (congrArg unit (congr (congrArg rms ex) en)) (eg f)) (eu f)

theorem final (c : Dev nD) : (dats m 0 c).arrAt 6 (cfgs 0).N = OUT m c := by
  refine (dats m 0 c).arrAt_eq_of_covers 6 _ (by decide +kernel) fun t _ y => ?_
  blk_simp
  rw [after0_6]
  obtain ⟨p, d, rfl⟩ : ∃ (p d : Fin 1024), y = ix2 p d := ⟨y 0, y 1, eq_ix2 (n0 := 1024) (n1 := 1024) y⟩
  have ht : (t : ℕ) < 32 := t.isLt
  have h : 1024 * (t : ℕ) + p < 32768 := by omega
  refine (out_point m c t p d h).trans ?_
  unfold OUT
  congr 1
  · apply Fin.ext
    blk_simp [idx_val t]
    show 1024 * t.val + (p : ℕ) = t.val * 1024 + p
    omega
  · apply Fin.ext
    blk_simp [idx_val t]

end Cert.Kernel2Ideal.Ffn

end
-- ==== Proof.FfnReference.lean ====
/- The feed-forward reference read at an element. -/
module

public import proofs.«01_k».proof.Proof.Gen.Reference2Ideal.Run
public import proofs.«01_k».proof.Proof.Ffn

@[expose] public section

set_option maxRecDepth 16384

noncomputable section

namespace Cert.Reference2Ideal.Ffn

open Cert.Reference2Ideal Cert.Reference2Ideal.Value Idealize.ShloMosaic Idealize.ShloMosaic.TcCoe Idealize.SL.Sem
open Cert.Ffn
open Facts₀ Facts

/-- The normalised rows. -/
def normed (X : FVec Ideal S8x4096x1024 .f32) (g : FVec Ideal S1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The gated hidden units. -/
def hidden (H : FVec Ideal S8x4096x1024 .f32) (wg wu : FVec Ideal S1024x2816 .f32) : FVec Ideal S8x4096x2816 .f32 :=
  mulf (mulf (Host.dotGeneral dot_S8x4096x1024_S1024x2816_S8x4096x2816_2_0_01_1_n_n none H wg)
    (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (Host.dotGeneral dot_S8x4096x1024_S1024x2816_S8x4096x2816_2_0_01_1_n_n none H wg))))))
    (Host.dotGeneral dot_S8x4096x1024_S1024x2816_S8x4096x2816_2_0_01_1_n_n none H wu)

/-- The rows with half of the product added. -/
def added (X : FVec Ideal S8x4096x1024 .f32) (A : FVec Ideal S8x4096x2816 .f32) (wd : FVec Ideal S2816x1024 .f32) : FVec Ideal S8x4096x1024 .f32 :=
  addf X (mulf (broadcastInDim S8x4096x1024 ![] bcast_S_S8x4096x1024 (constant S_ .f32 0x3F000000#32))
    (Host.dotGeneral dot_S8x4096x2816_S2816x1024_S8x4096x1024_2_0_01_1_n_n none A wd))

/-- The whole of it. -/
def result (X : FVec Ideal S8x4096x1024 .f32) (g : FVec Ideal S1024 .f32) (wg wu : FVec Ideal S1024x2816 .f32)
    (wd : FVec Ideal S2816x1024 .f32) (fg : FVec Ideal S1024 .f32) : FVec Ideal S32768x1024 .f32 :=
  shapeCast _ (normed (added X (hidden (normed X g) wg wu) wd) fg) shapeCasts_S8x4096x1024_S32768x1024

theorem res_eq (m : (ℓ : Loc nD τ sig) → Buf (Elt Ideal) ℓ) (c : Dev nD) : (res_main_v34 m c : FVec Ideal S32768x1024 .f32)
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v34
  rfl

theorem normed_at (X : FVec Ideal S8x4096x1024 .f32) (g : FVec Ideal S1024 .f32) (b : Fin 8) (s : Fin 4096) (d : Fin 1024) :
    normed X g (ix3 b s d) = rms (fun e => X (ix3 b s e)) (fun e => g (ix1 e)) d := by
  pointwise [normed, rms]

theorem hidden_at (H : FVec Ideal S8x4096x1024 .f32) (wg wu : FVec Ideal S1024x2816 .f32) (b : Fin 8) (s : Fin 4096) (f : Fin 2816) :
    hidden H wg wu (ix3 b s f) = unit (fun l => H (ix3 b s l)) (fun l => wg (ix2 l f)) (fun l => wu (ix2 l f)) := by
  pointwise [hidden, unit]

theorem added_at (X : FVec Ideal S8x4096x1024 .f32) (A : FVec Ideal S8x4096x2816 .f32) (wd : FVec Ideal S2816x1024 .f32)
    (b : Fin 8) (s : Fin 4096) (d : Fin 1024) :
    added X A wd (ix3 b s d) = half (fun e => X (ix3 b s e)) (fun f => A (ix3 b s f)) (fun f d => wd (ix2 f d)) d := by
  pointwise [added, half]

theorem result_at (X : FVec Ideal S8x4096x1024 .f32) (g : FVec Ideal S1024 .f32) (wg wu : FVec Ideal S1024x2816 .f32)
    (wd : FVec Ideal S2816x1024 .f32) (fg : FVec Ideal S1024 .f32) (p : Fin 32768) (d : Fin 1024) :
    result X g wg wu wd fg (ix2 p d) = row (fun e => X (ix3 ⟨p / 4096, by omega⟩ ⟨p % 4096, by omega⟩ e)) (fun e => g (ix1 e))
      (fun l f => wg (ix2 l f)) (fun l f => wu (ix2 l f)) (fun f d => wd (ix2 f d)) (fun e => fg (ix1 e)) d := by
  have e : result X g wg wu wd fg (ix2 p d)
      = normed (added X (hidden (normed X g) wg wu) wd) fg (ix3 ⟨p / 4096, by omega⟩ ⟨p % 4096, by omega⟩ d) := by
    pointwise [result]
  rw [e, normed_at]
  simp only [added_at, hidden_at, normed_at]
  rfl

end Cert.Reference2Ideal.Ffn

end
-- ==== Proof.FfnClaims.lean ====
/- The claims about the last feed-forward call. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.FfnFinal
public import proofs.«01_k».proof.Proof.FfnReference
public import Idealize.ShloMosaic.Adequacy
public import Idealize.ShloMosaic.Init

@[expose] public section

noncomputable section

namespace Cert.Proof.Claims

open Idealize.ShloMosaic Idealize.ShloMosaic.TcCoe Idealize.SL.Sem

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

/-- The reference's result array is the kernel's function of the same arguments. -/
theorem reference2_out (m : (ℓ : Loc Cert.Kernel2Ideal.nD Cert.Kernel2Ideal.τ Cert.Kernel2Ideal.sig) → Buf (Elt Ideal) ℓ)
    (c : Dev Cert.Kernel2Ideal.nD) :
    Cert.Reference2Ideal.Ffn.result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      = Cert.Kernel2Ideal.Ffn.OUT m c := by
  funext y
  obtain ⟨p, d, rfl⟩ : ∃ (p : Fin 32768) (d : Fin 1024), y = ix2 p d := ⟨y 0, y 1, eq_ix2 y⟩
  exact Cert.Reference2Ideal.Ffn.result_at _ _ _ _ _ _ p d

theorem algebraic2 : Cert.algebraic_Kernel2Ideal_Reference2Ideal := by
  intro m ρ m' ρ' _ hagree
  refine ⟨fun c => Cert.Kernel2Ideal.Ffn.OUT m c, ?_, ?_⟩
  · exact (θ_run Cert.Kernel2Ideal.defs _ _).mono (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    refine (Cert.Reference2Ideal.Ffn.res_eq m' c).trans ?_
    rw [(hagree c).1, (hagree c).2.1, (hagree c).2.2.1, (hagree c).2.2.2.1, (hagree c).2.2.2.2.1, (hagree c).2.2.2.2.2]
    exact reference2_out m c

end Cert.Proof.Claims

end
-- ==== Proof.FirstKernel.lean ====
/- The first feed-forward kernel's payloads read at an element. -/
module

public import proofs.«01_k».proof.Proof.Gen.Kernel3Ideal.Value
public import Idealize.ShloMosaic.Lib.Pipeline.ValueKit
public import Idealize.ShloMosaic.Lib.Pointwise
public import Idealize.ShloMosaic.Lib.Pipeline.ReadBack
public import proofs.«01_k».proof.Proof.Ffn

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.Ffn

theorem pay10_eq (x : Vec Ideal S1024x1024 .f32) : k0_pay10 x = x := shapeCast_self _ _

theorem pay11_at (x : Vec Ideal S1024x1024 .f32) (g : Vec Ideal S1x1024 .f32) (p d : Fin 1024) :
    (k0_pay11 x g (ix2 p d) : EReal) = rms (fun e => x (ix2 p e)) (fun e => g (ix2 0 e)) d := by
  pointwise [k0_pay11, k0_pay10, rms]

theorem pay12_at (x : Vec Ideal S1024x1024 .f32) (g : Vec Ideal S1x1024 .f32) (wg wu : Vec Ideal S1024x768 .bf16) (p : Fin 1024) (f : Fin 768) :
    (k0_pay12 x g wg wu (ix2 p f) : EReal)
      = unit (fun l => k0_pay11 x g (ix2 p l)) (fun l => wg (ix2 l f)) (fun l => wu (ix2 l f)) := by
  unfold k0_pay12
  generalize k0_pay11 x g = h
  pointwise [unit, zero_sub]

theorem pay14_at (x : Vec Ideal S1024x1024 .f32) (g : Vec Ideal S1x1024 .f32) (wg wu : Vec Ideal S1024x768 .bf16) (p : Fin 1024) (f : Fin 768) :
    (k0_pay14 (k0_pay11 x g) (k0_pay13 x g wg) wu (ix2 p f) : EReal)
      = unit (fun l => k0_pay11 x g (ix2 p l)) (fun l => wg (ix2 l f)) (fun l => wu (ix2 l f)) := by
  unfold k0_pay14 k0_pay13
  generalize k0_pay11 x g = h
  pointwise [unit, zero_sub]

theorem pay15_at (h : FVec Ideal S1024x1024 .bf16) (wg wu : Vec Ideal S1024x768 .bf16) (p : Fin 1024) (f : Fin 768) :
    (k0_pay15 h wg wu (ix2 p f) : EReal) = unit (fun l => h (ix2 p l)) (fun l => wg (ix2 l f)) (fun l => wu (ix2 l f)) := by
  pointwise [k0_pay15, unit, zero_sub]

theorem pay1_at (h : FVec Ideal S1024x1024 .bf16) (wg wu : Vec Ideal S1024x512 .bf16) (p : Fin 1024) (f : Fin 512) :
    (k0_pay1 h (k0_pay16 h wg) wu (ix2 p f) : EReal) = unit (fun l => h (ix2 p l)) (fun l => wg (ix2 l f)) (fun l => wu (ix2 l f)) := by
  pointwise [k0_pay1, k0_pay16, unit, zero_sub]

theorem out_at (x : FVec Ideal S1024x1024 .f32) (a : Vec Ideal S1024x2816 .bf16) (wd : Vec Ideal S2816x1024 .bf16)
    (p d : Fin 1024) : (k0_pay2 x a wd (ix2 p d) : EReal)
      = half (fun e => x (ix2 p e)) (fun f => a (ix2 p f)) (fun f d => wd (ix2 f d)) d := by
  pointwise [k0_pay2, half]

/-- A load of a rectangle of a two-axis array. -/
theorem ld_col {n : ℕ} (w : Vec Ideal S1024x2816 .bf16) (o : ℕ) (inb) (l : Fin 1024) (f : Fin n) (h : o + f < 2816) :
    (View.ld w (Rect.unit (s := S1024x2816) ![0, o] ![1024, n] inb) (ix2 l f) : EReal) = w (ix2 l ⟨o + f, h⟩) := by
  pointwise

/-- A load of the whole scratch buffer reads what its stores left. -/
theorem read_all (L : List (View.Piece (Elt Ideal) S1024x2816 .bf16)) : (View.whole cc0_scratch0).readCov L
    (Rect.unit (s := S1024x2816) ![0, 0] ![1024, 2816] inb_S1024x2816_S1024x2816_0_0).toLoadRect = View.canon L :=
  (View.readCov_eq_canon' _ L _).trans (View.ld_unit_lit (S := S1024x2816) inb_S1024x2816_S1024x2816_0_0 (View.canon L) (by decide))

theorem mem_cols {n o : ℕ} (inb) (y : S1024x2816.Idx) (h : o ≤ (y 1).val ∧ (y 1).val < o + n) :
    y ∈ (Rect.unit (s := S1024x2816) ![0, o] ![1024, n] inb).set :=
  Rect.mem_set_unit.2 fun a => by
    fin_cases a
    · exact ⟨Nat.zero_le _, (y 0).isLt.trans_eq (Nat.zero_add _).symm⟩
    · exact h

/-- A hidden unit of a stretch of columns is the hidden unit of the whole. -/
theorem unit_of (x : Vec Ideal S1024x1024 .f32) (g : Vec Ideal S1x1024 .f32) (wg wu : Vec Ideal S1024x2816 .bf16) (y : S1024x2816.Idx)
    {n : ℕ} (o : ℕ) (inb inb') (p : Fin 1024) (f : Fin n) (h0 : (y 0).val = p) (h1 : (y 1).val = o + f) :
    unit (fun l => k0_pay11 x g (ix2 p l)) (fun l => View.ld wg (Rect.unit (s := S1024x2816) ![0, o] ![1024, n] inb) (ix2 l f))
      (fun l => View.ld wu (Rect.unit (s := S1024x2816) ![0, o] ![1024, n] inb') (ix2 l f))
    = unit (fun l => rms (fun e => x (ix2 (y 0) e)) (fun e => g (ix2 0 e)) l) (fun l => wg (ix2 l (y 1))) (fun l => wu (ix2 l (y 1))) := by
  have hy : (y 1).val < 2816 := (y 1).isLt
  obtain ⟨a, b, rfl⟩ : ∃ (a : Fin 1024) (b : Fin 2816), y = ix2 a b := ⟨y 0, y 1, eq_ix2 y⟩
  obtain rfl : a = p := Fin.ext h0
  have hb : o + f < 2816 := h1 ▸ hy
  have e : (⟨o + f, hb⟩ : Fin 2816) = b := (Fin.ext h1).symm
  have e1 := fun l => pay11_at x g a l
  have e2 := fun l => (ld_col wg o inb l f hb).trans (congrArg (fun b => wg (ix2 l b)) e)
  have e3 := fun l => (ld_col wu o inb' l f hb).trans (congrArg (fun b => wu (ix2 l b)) e)
  exact congr (congr (congrArg unit (funext e1)) (funext e2)) (funext e3)

/-- The hidden units, as their four stores leave them. -/
theorem hidden_read (x : Vec Ideal S1024x1024 .f32) (g : Vec Ideal S1x1024 .f32) (wg wu : Vec Ideal S1024x2816 .bf16) (y : S1024x2816.Idx) :
    (View.canon (Val := Elt Ideal) (s := S1024x2816) (e := .bf16)
          [⟨Rect.unit ![0, 2304] ![1024, 512] inb_S1024x2816_S1024x512_0_2304,
              k0_pay1 (k0_pay11 x g)
                (k0_pay16 (k0_pay11 x g) (View.ld wg (Rect.unit ![0, 2304] ![1024, 512] inb_S1024x2816_S1024x512_0_2304)))
                (View.ld wu (Rect.unit ![0, 2304] ![1024, 512] inb_S1024x2816_S1024x512_0_2304))⟩,
            ⟨Rect.unit ![0, 1536] ![1024, 768] inb_S1024x2816_S1024x768_0_1536,
              k0_pay15 (k0_pay11 x g)
                (View.ld wg (Rect.unit ![0, 1536] ![1024, 768] inb_S1024x2816_S1024x768_0_1536))
                (View.ld wu (Rect.unit ![0, 1536] ![1024, 768] inb_S1024x2816_S1024x768_0_1536))⟩,
            ⟨Rect.unit ![0, 768] ![1024, 768] inb_S1024x2816_S1024x768_0_768,
              k0_pay14 (k0_pay11 x g)
                (k0_pay13 x g (View.ld wg (Rect.unit ![0, 768] ![1024, 768] inb_S1024x2816_S1024x768_0_768)))
                (View.ld wu (Rect.unit ![0, 768] ![1024, 768] inb_S1024x2816_S1024x768_0_768))⟩,
            ⟨Rect.unit ![0, 0] ![1024, 768] inb_S1024x2816_S1024x768_0_0,
              k0_pay12 x g
                (View.ld wg (Rect.unit ![0, 0] ![1024, 768] inb_S1024x2816_S1024x768_0_0))
                (View.ld wu (Rect.unit ![0, 0] ![1024, 768] inb_S1024x2816_S1024x768_0_0))⟩]
          y : EReal)
      = unit (fun l => rms (fun e => x (ix2 (y 0) e)) (fun e => g (ix2 0 e)) l) (fun l => wg (ix2 l (y 1))) (fun l => wu (ix2 l (y 1))) := by
  have hy : (y 1).val < 2816 := (y 1).isLt
  canon_tiles z h using by
    by_cases h1 : (y 1).val < 768
    · exact ⟨_, .tail _ (.tail _ (.tail _ (.head _))), mem_cols (by decide) y (by omega)⟩
    by_cases h2 : (y 1).val < 1536
    · exact ⟨_, .tail _ (.tail _ (.head _)), mem_cols (by decide) y (by omega)⟩
    by_cases h3 : (y 1).val < 2304
    · exact ⟨_, .tail _ (.head _), mem_cols (by decide) y (by omega)⟩
    · exact ⟨_, .head _, mem_cols (by decide) y (by omega)⟩
  all_goals idx_vars z
  · exact (pay1_at _ _ _ z0 z1).trans (unit_of x g wg wu y _ _ _ z0 z1 h0 h1)
  · exact (pay15_at _ _ _ z0 z1).trans (unit_of x g wg wu y _ _ _ z0 z1 h0 h1)
  · exact (pay14_at _ _ _ _ z0 z1).trans (unit_of x g wg wu y _ _ _ z0 z1 h0 h1)
  · exact (pay12_at _ _ _ _ z0 z1).trans (unit_of x g wg wu y _ _ _ z0 z1 h0 (h1.trans (Nat.zero_add _).symm))

end Cert.Kernel3Ideal.Ffn

end
-- ==== Proof.FirstReads.lean ====
/- What a grid point of the first feed-forward kernel reads: blocks of the arguments. -/
module

public import proofs.«01_k».proof.Proof.Gen.Kernel3Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

variable (m : (ℓ : Loc nD τ sig) → Buf (Elt Ideal) ℓ)

theorem V_x (c : Dev nD) (p : Fin 32768) (d : Fin 1024) : (V m c main_v0 : S32768x1024.Idx → EReal) (ix2 p d)
    = m ((c : Thread nD τ).loc main_arg0) (ix3 ⟨p / 4096, by omega⟩ ⟨p % 4096, by omega⟩ d) := by
  unfold V
  after_reads_simp
  pointwise

theorem V_n (c : Dev nD) (d : Fin 1024) : (V m c main_v1 : S1x1024.Idx → EReal) (ix2 0 d)
    = m ((c : Thread nD τ).loc main_arg1) (ix1 d) := by
  unfold V
  after_reads_simp
  pointwise

theorem V_wg (c : Dev nD) (l : Fin 1024) (f : Fin 2816) : (V m c main_v2 : S1024x2816.Idx → EReal) (ix2 l f)
    = m ((c : Thread nD τ).loc main_arg2) (ix2 l f) := by
  unfold V
  after_reads_simp
  pointwise

theorem V_wu (c : Dev nD) (l : Fin 1024) (f : Fin 2816) : (V m c main_v3 : S1024x2816.Idx → EReal) (ix2 l f)
    = m ((c : Thread nD τ).loc main_arg3) (ix2 l f) := by
  unfold V
  after_reads_simp
  pointwise

theorem V_wd (c : Dev nD) (f : Fin 2816) (d : Fin 1024) : (V m c main_v4 : S2816x1024.Idx → EReal) (ix2 f d)
    = m ((c : Thread nD τ).loc main_arg4) (ix2 f d) := by
  unfold V
  after_reads_simp
  pointwise

theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_12.index t = ![t.val, 0] :=
  (by decide +kernel : ∀ t : Fin grid0.N, _)

theorem read_x (c : Dev nD) (t : Fin cfg0.grid.N) (p d : Fin 1024) (h : 1024 * (t : ℕ) + p < 32768) :
    (iblk m c 0 t : S1024x1024.Idx → EReal) (ix2 p d) = (V m c main_v0 : S32768x1024.Idx → EReal) (ix2 ⟨1024 * t.val + p, h⟩ d) := by
  show V m c main_v0 _ = V m c main_v0 _
  refine congrArg (V m c main_v0) ?_
  funext z
  apply Fin.ext
  fin_cases z <;> blk_simp [iblk, idx_val t]
  · show t.val * 1024 + (p : ℕ) = 1024 * t.val + p
    omega
  · rfl

theorem read_n (c : Dev nD) (t : Fin cfg0.grid.N) (d : Fin 1024) :
    (iblk m c 1 t : S1x1024.Idx → EReal) (ix2 0 d) = (V m c main_v1 : S1x1024.Idx → EReal) (ix2 0 d) := by
  show V m c main_v1 _ = V m c main_v1 _
  refine congrArg (V m c main_v1) ?_
  funext z
  apply Fin.ext
  fin_cases z <;> blk_simp [iblk, idx_val t] <;> rfl

theorem read_wg (c : Dev nD) (t : Fin cfg0.grid.N) (l : Fin 1024) (f : Fin 2816) :
    (iblk m c 2 t : S1024x2816.Idx → EReal) (ix2 l f) = (V m c main_v2 : S1024x2816.Idx → EReal) (ix2 l f) := by
  show V m c main_v2 _ = V m c main_v2 _
  refine congrArg (V m c main_v2) ?_
  funext z
  apply Fin.ext
  fin_cases z <;> blk_simp [iblk, idx_val t] <;> rfl

theorem read_wu (c : Dev nD) (t : Fin cfg0.grid.N) (l : Fin 1024) (f : Fin 2816) :
    (iblk m c 3 t : S1024x2816.Idx → EReal) (ix2 l f) = (V m c main_v3 : S1024x2816.Idx → EReal) (ix2 l f) := by
  show V m c main_v3 _ = V m c main_v3 _
  refine congrArg (V m c main_v3) ?_
  funext z
  apply Fin.ext
  fin_cases z <;> blk_simp [iblk, idx_val t] <;> rfl

theorem read_wd (c : Dev nD) (t : Fin cfg0.grid.N) (f : Fin 2816) (d : Fin 1024) :
    (iblk m c 4 t : S2816x1024.Idx → EReal) (ix2 f d) = (V m c main_v4 : S2816x1024.Idx → EReal) (ix2 f d) := by
  show V m c main_v4 _ = V m c main_v4 _
  refine congrArg (V m c main_v4) ?_
  funext z
  apply Fin.ext
  fin_cases z <;> blk_simp [iblk, idx_val t] <;> rfl

end Cert.Kernel3Ideal.Ffn

end
-- ==== Proof.FirstFinal.lean ====
/- The first feed-forward kernel's result array is the half step of its arguments. -/
module

public import proofs.«01_k».proof.Proof.FirstKernel
public import proofs.«01_k».proof.Proof.FirstReads

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

def xa (c : Dev nD) (b : Fin 8) (s : Fin 4096) (d : Fin 1024) : EReal := m ((c : Thread nD τ).loc main_arg0) (ix3 b s d)
def na (c : Dev nD) (d : Fin 1024) : EReal := m ((c : Thread nD τ).loc main_arg1) (ix1 d)
def ga (c : Dev nD) (l : Fin 1024) (f : Fin 2816) : EReal := m ((c : Thread nD τ).loc main_arg2) (ix2 l f)
def ua (c : Dev nD) (l : Fin 1024) (f : Fin 2816) : EReal := m ((c : Thread nD τ).loc main_arg3) (ix2 l f)
def da (c : Dev nD) (f : Fin 2816) (d : Fin 1024) : EReal := m ((c : Thread nD τ).loc main_arg4) (ix2 f d)

/-- Row `p` of the result. -/
def rowOf (c : Dev nD) (p : Fin 32768) (d : Fin 1024) : EReal :=
  halfRow (xa m c ⟨p / 4096, by omega⟩ ⟨p % 4096, by omega⟩) (na m c) (ga m c) (ua m c) (da m c) d

def OUT (c : Dev nD) : Buf (Elt Ideal) ((c : Thread nD τ).loc main_v5_0) := fun y => rowOf m c (y 0) (y 1)

/-- What a grid point writes at an element of its block. -/
theorem out_point (c : Dev nD) (t : Fin cfg0.grid.N) (p d : Fin 1024) (h : 1024 * (t : ℕ) + p < 32768) :
    ((outsAt0 m c t).1 (ix2 p d) : EReal) = rowOf m c ⟨1024 * t.val + p, h⟩ d := by
  unfold Gen.outsAt0
  dsimp only
  frame_out
  rw [read_all, pay10_eq]
  refine (out_at _ _ _ p d).trans ?_
  have ex : (fun e => (iblk m c 0 t : S1024x1024.Idx → EReal) (ix2 p e)) = xa m c ⟨(1024 * t.val + p) / 4096, by omega⟩ ⟨(1024 * t.val + p) % 4096, by omega⟩ :=
    funext fun e => (read_x m c t p e h).trans (V_x m c ⟨1024 * t.val + p, h⟩ e)
  have en : (fun e => (iblk m c 1 t : S1x1024.Idx → EReal) (ix2 0 e)) = na m c := funext fun e => (read_n m c t e).trans (V_n m c e)
  have eg : ∀ f, (fun l => (iblk m c 2 t : S1024x2816.Idx → EReal) (ix2 l f)) = fun l => ga m c l f :=
    fun f => funext fun l => (read_wg m c t l f).trans (V_wg m c l f)
  have eu : ∀ f, (fun l => (iblk m c 3 t : S1024x2816.Idx → EReal) (ix2 l f)) = fun l => ua m c l f :=
    fun f => funext fun l => (read_wu m c t l f).trans (V_wu m c l f)
  have ed : (fun (f : Fin 2816) (d : Fin 1024) => (iblk m c 4 t : S2816x1024.Idx → EReal) (ix2 f d)) = da m c :=
    funext fun f => funext fun d => (read_wd m c t f d).trans (V_wd m c f d)
  have eh := fun f : Fin 2816 => hidden_read (iblk m c 0 t) (iblk m c 1 t) (iblk m c 2 t) (iblk m c 3 t) (ix2 p f)
  refine (congr (congr (congr (congrArg half ex) (funext fun f => (eh f).trans ?_)) ed) rfl).trans rfl
  exact congr (congr (congrArg unit (congr (congrArg rms ex) en)) (eg f)) (eu f)

theorem final (c : Dev nD) : (dats m 0 c).arrAt 12 (cfgs 0).N = OUT m c := by
  refine (dats m 0 c).arrAt_eq_of_covers 12 _ (by decide +kernel) fun t _ y => ?_
  blk_simp
  rw [after0_12]
  obtain ⟨p, d, rfl⟩ : ∃ (p d : Fin 1024), y = ix2 p d := ⟨y 0, y 1, eq_ix2 (n0 := 1024) (n1 := 1024) y⟩
  have ht : (t : ℕ) < 32 := t.isLt
  have h : 1024 * (t : ℕ) + p < 32768 := by omega
  refine (out_point m c t p d h).trans ?_
  unfold OUT
  congr 1
  · apply Fin.ext
    blk_simp [idx_val t]
    show 1024 * t.val + (p : ℕ) = t.val * 1024 + p
    omega
  · apply Fin.ext
    blk_simp [idx_val t]

end Cert.Kernel3Ideal.Ffn

end
-- ==== Proof.FirstReference.lean ====
/- The feed-forward reference read at an element. -/
module

public import proofs.«01_k».proof.Proof.Gen.Reference3Ideal.Run
public import proofs.«01_k».proof.Proof.Ffn

@[expose] public section

set_option maxRecDepth 16384

noncomputable section

namespace Cert.Reference3Ideal.Ffn

open Cert.Reference3Ideal Cert.Reference3Ideal.Value Idealize.ShloMosaic Idealize.ShloMosaic.TcCoe Idealize.SL.Sem
open Cert.Ffn
open Facts₀ Facts

/-- The normalised rows. -/
def normed (X : FVec Ideal S8x4096x1024 .f32) (g : FVec Ideal S1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The gated hidden units. -/
def hidden (H : FVec Ideal S8x4096x1024 .f32) (wg wu : FVec Ideal S1024x2816 .f32) : FVec Ideal S8x4096x2816 .f32 :=
  mulf (mulf (Host.dotGeneral dot_S8x4096x1024_S1024x2816_S8x4096x2816_2_0_01_1_n_n none H wg)
    (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (Host.dotGeneral dot_S8x4096x1024_S1024x2816_S8x4096x2816_2_0_01_1_n_n none H wg))))))
    (Host.dotGeneral dot_S8x4096x1024_S1024x2816_S8x4096x2816_2_0_01_1_n_n none H wu)

/-- The rows with half of the product added. -/
def added (X : FVec Ideal S8x4096x1024 .f32) (A : FVec Ideal S8x4096x2816 .f32) (wd : FVec Ideal S2816x1024 .f32) : FVec Ideal S8x4096x1024 .f32 :=
  addf X (mulf (broadcastInDim S8x4096x1024 ![] bcast_S_S8x4096x1024 (constant S_ .f32 0x3F000000#32))
    (Host.dotGeneral dot_S8x4096x2816_S2816x1024_S8x4096x1024_2_0_01_1_n_n none A wd))

/-- The whole of it. -/
def result (X : FVec Ideal S8x4096x1024 .f32) (g : FVec Ideal S1024 .f32) (wg wu : FVec Ideal S1024x2816 .f32)
    (wd : FVec Ideal S2816x1024 .f32) : FVec Ideal S32768x1024 .f32 :=
  shapeCast _ (added X (hidden (normed X g) wg wu) wd) shapeCasts_S8x4096x1024_S32768x1024

theorem normed_at (X : FVec Ideal S8x4096x1024 .f32) (g : FVec Ideal S1024 .f32) (b : Fin 8) (s : Fin 4096) (d : Fin 1024) :
    normed X g (ix3 b s d) = rms (fun e => X (ix3 b s e)) (fun e => g (ix1 e)) d := by
  pointwise [normed, rms]

theorem hidden_at (H : FVec Ideal S8x4096x1024 .f32) (wg wu : FVec Ideal S1024x2816 .f32) (b : Fin 8) (s : Fin 4096) (f : Fin 2816) :
    hidden H wg wu (ix3 b s f) = unit (fun l => H (ix3 b s l)) (fun l => wg (ix2 l f)) (fun l => wu (ix2 l f)) := by
  pointwise [hidden, unit]

theorem added_at (X : FVec Ideal S8x4096x1024 .f32) (A : FVec Ideal S8x4096x2816 .f32) (wd : FVec Ideal S2816x1024 .f32)
    (b : Fin 8) (s : Fin 4096) (d : Fin 1024) :
    added X A wd (ix3 b s d) = half (fun e => X (ix3 b s e)) (fun f => A (ix3 b s f)) (fun f d => wd (ix2 f d)) d := by
  pointwise [added, half]

theorem result_at (X : FVec Ideal S8x4096x1024 .f32) (g : FVec Ideal S1024 .f32) (wg wu : FVec Ideal S1024x2816 .f32)
    (wd : FVec Ideal S2816x1024 .f32) (p : Fin 32768) (d : Fin 1024) :
    result X g wg wu wd (ix2 p d) = halfRow (fun e => X (ix3 ⟨p / 4096, by omega⟩ ⟨p % 4096, by omega⟩ e)) (fun e => g (ix1 e))
      (fun l f => wg (ix2 l f)) (fun l f => wu (ix2 l f)) (fun f d => wd (ix2 f d)) d := by
  have e : result X g wg wu wd (ix2 p d)
      = added X (hidden (normed X g) wg wu) wd (ix3 ⟨p / 4096, by omega⟩ ⟨p % 4096, by omega⟩ d) := by
    pointwise [result]
  rw [e, added_at]
  simp only [hidden_at, normed_at]
  rfl

end Cert.Reference3Ideal.Ffn

end
-- ==== Proof.FirstClaims.lean ====
/- The claims about the first feed-forward call. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.FirstFinal
public import proofs.«01_k».proof.Proof.FirstReference
public import Idealize.ShloMosaic.Adequacy
public import Idealize.ShloMosaic.Init

@[expose] public section

noncomputable section

namespace Cert.Proof.Claims

open Idealize.ShloMosaic Idealize.ShloMosaic.TcCoe Idealize.SL.Sem

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

/-- The reference's result array is the kernel's function of the same arguments. -/
theorem reference3_out (m : (ℓ : Loc Cert.Kernel3Ideal.nD Cert.Kernel3Ideal.τ Cert.Kernel3Ideal.sig) → Buf (Elt Ideal) ℓ)
    (c : Dev Cert.Kernel3Ideal.nD) :
    Cert.Reference3Ideal.Ffn.result
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      = Cert.Kernel3Ideal.Ffn.OUT m c := by
  funext y
  obtain ⟨p, d, rfl⟩ : ∃ (p : Fin 32768) (d : Fin 1024), y = ix2 p d := ⟨y 0, y 1, eq_ix2 y⟩
  exact Cert.Reference3Ideal.Ffn.result_at _ _ _ _ _ p d

theorem algebraic3 : Cert.algebraic_Kernel3Ideal_Reference3Ideal := by
  intro m ρ m' ρ' _ hagree
  refine ⟨fun c => Cert.Kernel3Ideal.Ffn.OUT m c, ?_, ?_⟩
  · exact (θ_run Cert.Kernel3Ideal.defs _ _).mono (fun _ h c => ⟨(h c).1.trans (Cert.Kernel3Ideal.Ffn.final m c), (h c).2.2.2.2.2.2.2.2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    refine (show _ = Cert.Reference3Ideal.Ffn.result (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) from rfl).trans ?_
    rw [(hagree c).1, (hagree c).2.1, (hagree c).2.2.1, (hagree c).2.2.2.1, (hagree c).2.2.2.2.1]
    exact reference3_out m c

end Cert.Proof.Claims

end
-- ==== Proof.Softmax.lean ====
/- Softmax over the extended reals, as the attention kernels compute it: base-two exponentials of scores scaled by
   `1 / log 2`, a running maximum, sums rescaled when the maximum moves, one division at the end — and as the
   mathematics writes it: `exp (s - max) / ∑ exp (s - max)`. Scores are real or `⊥` (masked), values are any
   extended reals. -/
module

public import Idealize.ShloMosaic.PureOps.Ideal

@[expose] public section

noncomputable section

namespace Cert.Softmax

open Idealize.ShloMosaic

/-- `1 / log 2`, the factor that turns natural exponents into base-two ones. -/
def log2e : EReal := (((Real.log 2)⁻¹ : ℝ) : EReal)

/-- A nonnegative real factor distributes over a sum of extended reals. -/
theorem coe_mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The weight of a score: a nonnegative real, zero for a masked one. -/
def wt (t : EReal) (m : ℝ) : ℝ := if t = ⊥ then 0 else Real.rpow 2 (t.toReal - m)

theorem wt_nonneg (t : EReal) (m : ℝ) : 0 ≤ wt t m := by
  unfold wt; split_ifs
  · exact le_rfl
  · exact Real.rpow_nonneg (by norm_num) _

theorem exp2_sub {t : EReal} (ht : t ≠ ⊤) (m : ℝ) : Ideal.exp2 (t - (m : EReal)) = (wt t m : EReal) := by
  induction t using EReal.rec with
  | bot => simp [wt]
  | top => exact absurd rfl ht
  | coe r => rw [← EReal.coe_sub, Ideal.exp2_coe]; simp [wt]

/-- Moving the reference point of a weight is a factor. -/
theorem rpow_mul_wt (t : EReal) (m m' : ℝ) : Real.rpow 2 (m - m') * wt t m = wt t m' := by
  unfold wt; split_ifs
  · simp
  · simp only [Real.rpow_eq_pow]
    rw [← Real.rpow_add (by norm_num)]; congr 1; ring

/-- Values weighted by base-two exponentials of scores taken from the reference point `m`. -/
def acc {ι : Type} [Fintype ι] (t v : ι → EReal) (m : EReal) : EReal := ∑ i, v i * Ideal.exp2 (t i - m)

theorem acc_eq {ι : Type} [Fintype ι] {t : ι → EReal} (ht : ∀ i, t i ≠ ⊤) (v : ι → EReal) (m : ℝ) :
    acc t v m = ∑ i, v i * (wt (t i) m : EReal) :=
  Finset.sum_congr rfl fun i _ => by rw [exp2_sub (ht i)]

/-- Rescaling the weighted sum from one real maximum to another. -/
theorem exp2_mul_acc {ι : Type} [Fintype ι] {t : ι → EReal} (ht : ∀ i, t i ≠ ⊤) (v : ι → EReal) (m m' : ℝ) :
    Ideal.exp2 ((m : EReal) - (m' : EReal)) * acc t v m = acc t v m' := by
  rw [acc_eq ht, acc_eq ht, ← EReal.coe_sub, Ideal.exp2_coe,
    coe_mul_sum (c := Real.rpow 2 (m - m')) _ _ (Real.rpow_nonneg (by norm_num) _)]
  refine Finset.sum_congr rfl fun i _ => ?_
  rw [mul_left_comm, ← EReal.coe_mul, rpow_mul_wt]

/-- A base-two exponential of a difference of reals distributes over a sum. -/
theorem exp2_mul_add (m m' : ℝ) (x y : EReal) :
    Ideal.exp2 ((m : EReal) - (m' : EReal)) * (x + y)
      = Ideal.exp2 ((m : EReal) - (m' : EReal)) * x + Ideal.exp2 ((m : EReal) - (m' : EReal)) * y := by
  rw [← EReal.coe_sub, Ideal.exp2_coe]
  exact EReal.left_distrib_of_nonneg_of_ne_top (by exact_mod_cast Real.rpow_nonneg (by norm_num) _)
    (EReal.coe_ne_top _) _ _

/-- The largest of finitely many scores none of which is `⊤`, one of which is real, is real. -/
theorem fold_max_coe {ι : Type} [Fintype ι] {f : ι → EReal} (hf : ∀ i, f i ≠ ⊤) (h : ∃ i, f i ≠ ⊥) :
    ∃ r : ℝ, Finset.univ.fold max ⊥ f = r := by
  classical
  have htop : Finset.univ.fold max ⊥ f ≠ ⊤ := by
    rw [← lt_top_iff_ne_top, Finset.fold_max_lt]
    exact ⟨bot_lt_top, fun i _ => lt_top_iff_ne_top.2 (hf i)⟩
  have hbot : Finset.univ.fold max ⊥ f ≠ ⊥ := by
    obtain ⟨i, hi⟩ := h
    rw [← bot_lt_iff_ne_bot, Finset.lt_fold_max]
    exact Or.inr ⟨i, Finset.mem_univ _, bot_lt_iff_ne_bot.2 hi⟩
  exact ⟨_, (EReal.coe_toReal htop hbot).symm⟩

theorem fold_max_ne_top {ι : Type} [Fintype ι] {f : ι → EReal} (hf : ∀ i, f i ≠ ⊤) :
    Finset.univ.fold max ⊥ f ≠ ⊤ := by
  rw [← lt_top_iff_ne_top, Finset.fold_max_lt]
  exact ⟨bot_lt_top, fun i _ => lt_top_iff_ne_top.2 (hf i)⟩

theorem max_coe (r : ℝ) {x : EReal} (hx : x ≠ ⊤) : ∃ r' : ℝ, max (r : EReal) x = r' := by
  induction x using EReal.rec with
  | bot => exact ⟨r, by simp⟩
  | top => exact absurd rfl hx
  | coe y => exact ⟨max r y, (EReal.coe_strictMono.monotone.map_max).symm⟩

/-- The running maximum and weighted sum of the kernel after one more block of scores `t`. -/
theorem step {ι κ : Type} [Fintype ι] [Fintype κ] {s : κ → EReal} {t : ι → EReal} (hs : ∀ i, s i ≠ ⊤)
    (ht : ∀ i, t i ≠ ⊤) (m : ℝ) :
    ∃ m' : ℝ, max (m : EReal) (Finset.univ.fold max ⊥ t) = m' ∧ ∀ (u : κ → EReal) (v : ι → EReal),
      Ideal.exp2 ((m : EReal) - (m' : EReal)) * acc s u m + acc t v m' = acc s u m' + acc t v m' := by
  obtain ⟨m', h⟩ := max_coe m (fold_max_ne_top ht)
  exact ⟨m', h, fun u v => by rw [exp2_mul_acc hs]⟩

/-- Base-two weights of scaled scores against natural weights: a positive factor. -/
theorem wt_scaled {s : EReal} (hs : s ≠ ⊤) (M R : ℝ) :
    Ideal.exp2 (s * log2e - (M : EReal)) = (Real.exp (R - M * Real.log 2) : EReal) * Ideal.exp (s - (R : EReal)) := by
  have h2 : 0 < Real.log 2 := Real.log_pos (by norm_num)
  induction s using EReal.rec with
  | bot =>
    have : (⊥ : EReal) * log2e = ⊥ := EReal.bot_mul_coe_of_pos (inv_pos.2 h2)
    rw [this]; simp
  | top => exact absurd rfl hs
  | coe r =>
    rw [log2e, ← EReal.coe_mul, ← EReal.coe_sub, ← EReal.coe_sub, Ideal.exp2_coe, Ideal.exp_coe, ← EReal.coe_mul,
      ← Real.exp_add]
    congr 1
    rw [Real.rpow_eq_pow, Real.rpow_def_of_pos (by norm_num)]
    congr 1; field_simp; ring

/-- The softmax-weighted sum of values, as the mathematics writes it: natural exponentials from the reference point
    `R`, each weight normalised before it meets its value. -/
def soft {ι : Type} [Fintype ι] (s v : ι → EReal) (R : EReal) : EReal :=
  ∑ i, v i * Ideal.div (Ideal.exp (s i - R)) (∑ j, Ideal.exp (s j - R))

/-- One division of base-two sums is the softmax-weighted sum, whatever the two real reference points. -/
theorem div_acc {ι : Type} [Fintype ι] {s : ι → EReal} (hs : ∀ i, s i ≠ ⊤) (h : ∃ i, s i ≠ ⊥) (v : ι → EReal)
    (M R : ℝ) :
    Ideal.div (acc (fun i => s i * log2e) v M) (acc (fun i => s i * log2e) (fun _ => 1) M) = soft s v R := by
  have hE : ∀ i, ∃ e : ℝ, 0 ≤ e ∧ Ideal.exp (s i - (R : EReal)) = e ∧ (s i ≠ ⊥ → 0 < e) := by
    intro i
    have := hs i
    induction hsi : s i using EReal.rec with
    | bot => exact ⟨0, le_rfl, by simp, fun h => absurd rfl h⟩
    | top => exact absurd hsi (hs i)
    | coe r => exact ⟨Real.exp (r - R), (Real.exp_pos _).le, by rw [← EReal.coe_sub, Ideal.exp_coe],
        fun _ => Real.exp_pos _⟩
  choose E hE0 hEe hEp using hE
  obtain ⟨i₀, hi₀⟩ := h
  have hS : 0 < ∑ i, E i := Finset.sum_pos' (fun i _ => hE0 i) ⟨i₀, Finset.mem_univ _, hEp i₀ hi₀⟩
  have hc := Real.exp_pos (R - M * Real.log 2)
  set c := Real.exp (R - M * Real.log 2) with hcdef
  have hsum : (∑ j, Ideal.exp (s j - (R : EReal))) = ((∑ j, E j : ℝ) : EReal) := by
    rw [show ((∑ j, E j : ℝ) : EReal) = ∑ j, (E j : EReal) from map_sum (⟨⟨Real.toEReal, rfl⟩, EReal.coe_add⟩ : ℝ →+ EReal) E _]
    exact Finset.sum_congr rfl fun j _ => hEe j
  have hA : ∀ u : ι → EReal, acc (fun i => s i * log2e) u M = (c : EReal) * ∑ i, u i * (E i : EReal) := by
    intro u
    rw [coe_mul_sum _ _ hc.le]
    refine Finset.sum_congr rfl fun i _ => ?_
    show u i * Ideal.exp2 (s i * log2e - M) = _
    rw [wt_scaled (hs i) M R, hEe, mul_left_comm]
  have hA1 : acc (fun i => s i * log2e) (fun _ => 1) M = ((c * ∑ j, E j : ℝ) : EReal) := by
    rw [hA, EReal.coe_mul, ← hsum]
    congr 1
    exact Finset.sum_congr rfl fun j _ => by rw [one_mul, hEe]
  rw [hA1, Ideal.div_coe (mul_pos hc hS).ne', hA, soft, hsum, mul_comm, ← mul_assoc, ← EReal.coe_mul,
    show 1 / (c * ∑ j, E j) * c = 1 / ∑ j, E j by field_simp, coe_mul_sum _ _ (by positivity)]
  refine Finset.sum_congr rfl fun i _ => ?_
  rw [hEe, Ideal.div_coe hS.ne', mul_left_comm, mul_comm ((1 / ∑ j, E j : ℝ) : EReal)]

/-- A weighted sum over a larger index set, the scores outside an embedded one masked. -/
theorem acc_embed {ι κ : Type} [Fintype ι] [Fintype κ] {s v : ι → EReal} {t w : κ → EReal} (e : ι → κ)
    (he : Function.Injective e) (hout : ∀ x, (∀ i, e i ≠ x) → t x = ⊥) (hs : ∀ i, t (e i) = s i)
    (hv : ∀ i, s i ≠ ⊥ → w (e i) = v i) (M : ℝ) : acc t w M = acc s v M := by
  classical
  symm
  refine Finset.sum_of_injOn e he.injOn (fun _ _ => Finset.mem_coe.2 (Finset.mem_univ _)) (fun x _ hx => ?_) fun i _ => ?_
  · rw [hout x fun i hi => hx ⟨i, Finset.mem_coe.2 (Finset.mem_univ _), hi⟩]; simp
  · rw [hs]
    by_cases h : s i = ⊥
    · rw [h]; simp
    · rw [hv i h]

end Cert.Softmax

end
-- ==== Proof.Band.lean ====
/- The vector steps of the banded-attention kernel, named once: the score block, the running maximum, the weighted
   sum of values, one chain over three key blocks, the normalised block of outputs; and each read at an element. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax

/-- Scores of 256 keys against 256 queries of two heads, in base-two exponents. -/
def scoreV (kb : Vec Ideal S1x256x128 .bf16) (q : Vec Ideal S1x128x512 .bf16) (b : Vec Ideal S1x256x512 .f32) :
    FVec Ideal S256x512 .f32 :=
  addf (matmul dot_S256x128_S128x512_S256x512_1_0_0_1_n_n none
      (shapeCast S256x128 kb shapeCasts_S1x256x128_S256x128 : FVec Ideal S256x128 .bf16)
      (shapeCast S128x512 q shapeCasts_S1x128x512_S128x512 : FVec Ideal S128x512 .bf16) (constant S256x512 .f32 0x00000000#32))
    (mulf (shapeCast S256x512 b shapeCasts_S1x256x512_S256x512)
      (broadcast S256x512 (Named.named κ "log2e" 0x3FB8AA3B#32)))

/-- The largest score per query. -/
def maxV (s : FVec Ideal S256x512 .f32) : FVec Ideal S1x512 .f32 :=
  shapeCast S1x512 (multiReduction .maximumf [0] S512 s 0xFF800000#32 reduces_S256x512_S512 (.inl rfl) rfl)
    shapeCasts_S512_S1x512

/-- Values weighted by the scores' exponentials from the maximum `mx`. -/
def pvV (s : FVec Ideal S256x512 .f32) (mx : FVec Ideal S1x512 .f32) (v : Vec Ideal S1x1x144x256 .bf16) :
    FVec Ideal S144x512 .f32 :=
  matmul dot_S144x256_S256x512_S144x512_1_0_0_1_n_n none (shapeCast S144x256 v shapeCasts_S1x1x144x256_S144x256 : FVec Ideal S144x256 .bf16)
    (truncf .bf16 (exp2 (subf s (broadcastTo S256x512 mx broadcasts_S1x512_S256x512))) bitsLt_bf16_f32)
    (constant S144x512 .f32 0x00000000#32)

/-- The sum so far, rescaled to the new maximum, with the next block's. -/
def addV (mx mx' : FVec Ideal S1x512 .f32) (a p : FVec Ideal S144x512 .f32) : FVec Ideal S144x512 .f32 :=
  addf (mulf (broadcastTo S144x512 (exp2 (subf mx mx')) broadcasts_S1x512_S144x512) a) p

/-- One chain: the query block's own keys first, then the two key blocks before. -/
def chainV (s2 s1 s0 : FVec Ideal S256x512 .f32) (v2 v1 v0 : Vec Ideal S1x1x144x256 .bf16) : FVec Ideal S144x512 .f32 :=
  addV (maximumf (maxV s2) (maxV s1)) (maximumf (maximumf (maxV s2) (maxV s1)) (maxV s0))
    (addV (maxV s2) (maximumf (maxV s2) (maxV s1)) (pvV s2 (maxV s2) v2) (pvV s1 (maximumf (maxV s2) (maxV s1)) v1))
    (pvV s0 (maximumf (maximumf (maxV s2) (maxV s1)) (maxV s0)) v0)

/-- A chain's sums divided by their weights' total (row 128), the two heads below one another. -/
def normV (a : FVec Ideal S144x512 .f32) : FVec Ideal S128x256 .f32 :=
  concatenate S128x256 0
    [⟨S64x256, divf (extractStridedSlice S64x256 ![0, 0] a slices_S144x512_o0_0_S64x256)
        (broadcastTo S64x256 (extractStridedSlice S1x256 ![128, 0] a slices_S144x512_o128_0_S1x256)
          broadcasts_S1x256_S64x256)⟩,
     ⟨S64x256, divf (extractStridedSlice S64x256 ![64, 256] a slices_S144x512_o64_256_S64x256)
        (broadcastTo S64x256 (extractStridedSlice S1x256 ![128, 256] a slices_S144x512_o128_256_S1x256)
          broadcasts_S1x256_S64x256)⟩] concatenates_S64x256_S64x256_S128x256_d0

/-- Two chains side by side, transposed to rows of positions. -/
def outV (a b : FVec Ideal S144x512 .f32) : FVec Ideal S1x512x128 .bf16 :=
  shapeCast S1x512x128 (truncf .bf16 (transpose S512x128 [1, 0]
    (concatenate S128x512 1 [⟨S128x256, normV a⟩, ⟨S128x256, normV b⟩] concatenates_S128x256_S128x256_S128x512_d1)
    transposes_S128x512_p1_0_S512x128) bitsLt_bf16_f32) shapeCasts_S512x128_S1x512x128

/-- A masked block of scores. -/
def maskV (s : FVec Ideal S256x512 .f32) : FVec Ideal S256x512 .f32 :=
  Scalar.select (Scalar.cmpi .sgt (0#32) 0#32) s (broadcast S256x512 (Named.named κ "mask" 0xF149F2CA#32))

theorem named_log2e : (Named.named κ "log2e" 0x3FB8AA3B#32 : Ideal .f32) = log2e := rfl

theorem named_mask : (Named.named κ "mask" 0xF149F2CA#32 : Ideal .f32) = (⊥ : EReal) := rfl

theorem scoreV_at (kb : Vec Ideal S1x256x128 .bf16) (q : Vec Ideal S1x128x512 .bf16) (b : Vec Ideal S1x256x512 .f32)
    (j : Fin 256) (x : Fin 512) : scoreV kb q b (ix2 j x)
      = (∑ l : Fin 128, (kb (ix3 0 j l) : EReal) * q (ix3 0 l x)) + b (ix3 0 j x) * log2e := by
  pointwise [scoreV, named_log2e]

theorem maskV_at (s : FVec Ideal S256x512 .f32) (j : Fin 256) (x : Fin 512) : maskV s (ix2 j x) = (⊥ : EReal) := by
  pointwise [maskV, named_mask]
  rfl

theorem maxV_at (s : FVec Ideal S256x512 .f32) (x : Fin 512) :
    maxV s (ix2 0 x) = Finset.univ.fold max (⊥ : EReal) fun j : Fin 256 => s (ix2 j x) := by
  pointwise [maxV]
  rw [show Ideal.ofBits .f32 0xFF800000#32 = (⊥ : EReal) by simp [Ideal.ofBits, Ideal.ieee]]

theorem pvV_at (s : FVec Ideal S256x512 .f32) (mx : FVec Ideal S1x512 .f32) (v : Vec Ideal S1x1x144x256 .bf16)
    (e : Fin 144) (x : Fin 512) : pvV s mx v (ix2 e x)
      = acc (fun j : Fin 256 => s (ix2 j x)) (fun j => v (ix4 0 0 e j)) (mx (ix2 0 x)) := by
  pointwise [pvV]
  rfl

theorem addV_at (mx mx' : FVec Ideal S1x512 .f32) (a p : FVec Ideal S144x512 .f32) (e : Fin 144) (x : Fin 512) :
    addV mx mx' a p (ix2 e x)
      = Ideal.exp2 ((mx (ix2 0 x) : EReal) - mx' (ix2 0 x)) * (a (ix2 e x) : EReal) + p (ix2 e x) := by
  pointwise [addV]
  rfl

theorem maximumf_at (a b : FVec Ideal S1x512 .f32) (x : Fin 512) :
    maximumf a b (ix2 0 x) = max (a (ix2 0 x) : EReal) (b (ix2 0 x)) := by
  pointwise []

theorem outV_at (a b : FVec Ideal S144x512 .f32) (r : Fin 512) (e : Fin 128) : outV a b (ix3 0 r e)
    = if h : (r : ℕ) < 256 then
        if h' : (e : ℕ) < 64 then Ideal.div (a (ix2 ⟨e, by omega⟩ r)) (a (ix2 128 r))
        else Ideal.div (a (ix2 ⟨e, by omega⟩ ⟨256 + r, by omega⟩)) (a (ix2 128 ⟨256 + r, by omega⟩))
      else
        if h' : (e : ℕ) < 64 then Ideal.div (b (ix2 ⟨e, by omega⟩ ⟨r - 256, by omega⟩)) (b (ix2 128 ⟨r - 256, by omega⟩))
        else Ideal.div (b (ix2 ⟨e, by omega⟩ r)) (b (ix2 128 r)) := by
  pointwise [outV, normV]
  by_cases h : (r : ℕ) < 256 <;> by_cases h' : (e : ℕ) < 64 <;> simp only [h, h', ↓reduceDIte]
  · congr 4; omega
  · congr 5 <;> omega

/-- One chain at an element: with real running maximum `M`, the three blocks' weighted sums from `M`. -/
theorem chainV_at (s2 s1 s0 : FVec Ideal S256x512 .f32) (v2 v1 v0 : Vec Ideal S1x1x144x256 .bf16) (x : Fin 512)
    (h2 : ∀ j, s2 (ix2 j x) ≠ (⊤ : EReal)) (h1 : ∀ j, s1 (ix2 j x) ≠ (⊤ : EReal)) (h0 : ∀ j, s0 (ix2 j x) ≠ (⊤ : EReal))
    (hr : ∃ j, s2 (ix2 j x) ≠ (⊥ : EReal)) :
    ∃ M : ℝ, ∀ e : Fin 144, chainV s2 s1 s0 v2 v1 v0 (ix2 e x)
      = acc (fun j : Fin 256 => s2 (ix2 j x)) (fun j => v2 (ix4 0 0 e j)) M
        + acc (fun j : Fin 256 => s1 (ix2 j x)) (fun j => v1 (ix4 0 0 e j)) M
        + acc (fun j : Fin 256 => s0 (ix2 j x)) (fun j => v0 (ix4 0 0 e j)) M := by
  obtain ⟨m0, e0⟩ := fold_max_coe h2 hr
  obtain ⟨m1, e1⟩ := max_coe m0 (fold_max_ne_top h1)
  obtain ⟨m2, e2⟩ := max_coe m1 (fold_max_ne_top h0)
  refine ⟨m2, fun e => ?_⟩
  rw [chainV, addV_at, addV_at, pvV_at, pvV_at, pvV_at, maximumf_at, maximumf_at, maximumf_at, maxV_at, maxV_at, maxV_at, e0, e1, e2,
    exp2_mul_acc h2, exp2_mul_add, exp2_mul_acc h2, exp2_mul_acc h1]

end Cert.KernelIdeal.Band

end
-- ==== Proof.Queries.lean ====
/- The queries as the banded-attention kernel keeps them: every block of 256 positions once per head, the other head's
   rows zeroed, all blocks side by side. -/
module

public import proofs.«01_k».proof.Proof.Band

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax

/-- The factor the queries carry: `1/8`, in base-two exponents. -/
def qk : EReal := (((1 / 8) * (Real.log 2)⁻¹ : ℝ) : EReal)

theorem named_qk : (Named.named κ "qk_scale" 0x3E38AA3B#32 : Ideal .f32) = qk := rfl

/-- Piece `r` of a loaded tile: positions `256 * (r / 2) + i`, head `r % 2`. -/
def pieceV (u : Vec Ideal S1x1x128x512 .f32) (r : Fin 4) : FVec Ideal S128x256 .bf16 :=
  ![extractStridedSlice S128x256 ![0, 0] (k0_pay2 u) slices_S128x1024_o0_0_S128x256,
    extractStridedSlice S128x256 ![0, 512] (k0_pay2 u) slices_S128x1024_o0_512_S128x256,
    extractStridedSlice S128x256 ![0, 256] (k0_pay2 u) slices_S128x1024_o0_256_S128x256,
    extractStridedSlice S128x256 ![0, 768] (k0_pay2 u) slices_S128x1024_o0_768_S128x256] r

theorem lt_word : ∀ l : Fin 128, IntOp.cmpi .slt (BitVec.ofNat 32 l) 64#32 = if (l : ℕ) < 64 then 1#1 else 0#1 := by
  decide

theorem ge_word : ∀ l : Fin 128, IntOp.cmpi .sge (BitVec.ofNat 32 l) 64#32 = if (l : ℕ) < 64 then 0#1 else 1#1 := by
  decide

theorem k0_pay2_at (u : Vec Ideal S1x1x128x512 .f32) (l : Fin 128) (y : Fin 1024) : k0_pay2 u (ix2 l y)
    = if ((l : ℕ) < 64 ↔ (y : ℕ) < 512) then (u (ix4 0 0 l ⟨y % 512, Nat.mod_lt _ (by norm_num)⟩) : EReal) * qk else 0 := by
  pointwise [k0_pay2, named_qk, lt_word, ge_word]
  have hy := y.isLt
  by_cases h : (l : ℕ) < 64 <;> by_cases h' : (y : ℕ) < 512
  · rw [dif_pos h', if_pos h]
    refine Eq.trans ?_ (if_pos (by omega)).symm
    exact congrArg (fun z => (u (ix4 0 0 l z) : EReal) * qk) (Fin.ext (Nat.mod_eq_of_lt h').symm)
  · rw [dif_neg h', if_pos h]
    exact Eq.trans rfl (if_neg (by omega)).symm
  · rw [dif_pos h', if_neg h]
    exact Eq.trans rfl (if_neg (by omega)).symm
  · rw [dif_neg h', if_neg h]
    refine Eq.trans ?_ (if_pos (by omega)).symm
    exact congrArg (fun z => (u (ix4 0 0 l z) : EReal) * qk) (Fin.ext (show (y : ℕ) - 512 = y % 512 by omega))

/-- The stored queries at row `l`, column `y`. -/
def q12F (x : S1x8x128x512.Idx → EReal) (l : Fin 128) (y : Fin 8192) : EReal :=
  if ((l : ℕ) < 64 ↔ (y : ℕ) / 256 % 2 = 0) then
    x (ix4 0 ⟨y / 1024, by omega⟩ l ⟨256 * (y / 512 % 2) + y % 256, by omega⟩) * qk else 0

theorem pieceV_at (u : Vec Ideal S1x1x128x512 .f32) (r : Fin 4) (l : Fin 128) (i : Fin 256) : pieceV u r (ix2 l i)
    = if ((l : ℕ) < 64 ↔ (r : ℕ) % 2 = 0) then (u (ix4 0 0 l ⟨256 * (r / 2) + i, by omega⟩) : EReal) * qk else 0 := by
  have hi := i.isLt
  fin_cases r <;>
  · simp [pieceV]
    pointwise [k0_pay2_at]
    try simp only [iff_false]
    by_cases h : (l : ℕ) < 64
    all_goals
      first
        | rw [if_pos (by omega), if_pos (by omega)]
        | rw [if_neg (by omega), if_neg (by omega)]
    all_goals (congr 3; try (ext; simp; omega))

theorem concat_queries (u : Fin 8 → Vec Ideal S1x1x128x512 .f32) : k0_pay48 (k0_pay3 (u 0)) (k0_pay4 (u 0)) (k0_pay6 (u 0)) (k0_pay7 (u 0))
      (k0_pay10 (k0_pay8 (u 1))) (k0_pay11 (k0_pay8 (u 1))) (k0_pay13 (u 1)) (k0_pay14 (u 1))
      (k0_pay16 (k0_pay15 (u 2))) (k0_pay17 (k0_pay15 (u 2))) (k0_pay19 (u 2)) (k0_pay20 (u 2))
      (k0_pay22 (u 3)) (k0_pay23 (u 3)) (k0_pay26 (k0_pay24 (u 3))) (k0_pay27 (k0_pay24 (u 3)))
      (k0_pay29 (u 4)) (k0_pay30 (u 4)) (k0_pay32 (k0_pay31 (u 4))) (k0_pay33 (k0_pay31 (u 4)))
      (k0_pay35 (u 5)) (k0_pay36 (u 5)) (k0_pay38 (u 5)) (k0_pay39 (u 5))
      (k0_pay42 (k0_pay40 (u 6))) (k0_pay43 (k0_pay40 (u 6))) (k0_pay45 (u 6)) (k0_pay46 (u 6)) (k0_pay47 (u 7)) (u 7)
    = shapeCast S1x128x8192 (concatenate S128x8192 1
        (List.ofFn fun n : Fin 32 => (⟨S128x256, pieceV (u ⟨n / 4, by omega⟩) ⟨n % 4, by omega⟩⟩ : (s : Shape) × (s.Idx → EReal)))
        concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x8192_d1)
      shapeCasts_S128x8192_S1x128x8192 := by
  rfl

theorem cast_at (v : FVec Ideal S128x8192 .bf16) (a : Fin 1) (l : Fin 128) (y : Fin 8192) :
    shapeCast S1x128x8192 v shapeCasts_S128x8192_S1x128x8192 (ix3 a l y) = v (ix2 l y) := by
  pointwise

theorem queries_at (x : S1x8x128x512.Idx → EReal) (u : Fin 8 → Vec Ideal S1x1x128x512 .f32)
    (hu : ∀ t l i, (u t (ix4 0 0 l i) : EReal) = x (ix4 0 t l i)) :
    shapeCast S1x128x8192 (concatenate S128x8192 1
        (List.ofFn fun n : Fin 32 => (⟨S128x256, pieceV (u ⟨n / 4, by omega⟩) ⟨n % 4, by omega⟩⟩ : (s : Shape) × (s.Idx → EReal)))
        concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x8192_d1)
      shapeCasts_S128x8192_S1x128x8192 = fun y => q12F x (y 1) (y 2) := by
  funext y
  idx_vars y
  have h := y2.isLt
  have hc := concatenate_ofFn_apply (t := S128x8192) (s₁ := S128x256) 1 (fun n : Fin 32 => pieceV (u ⟨n / 4, by omega⟩) ⟨n % 4, by omega⟩)
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x8192_d1
    rfl 256 rfl (ix2 y1 y2) ⟨y2 / 256, by omega⟩ rfl (ix2 y1 ⟨y2 % 256, by omega⟩) rfl (by
      intro b hb; fin_cases b
      · rfl
      · exact absurd rfl hb)
  rw [cast_at, hc, pieceV_at, hu]
  unfold q12F
  refine if_congr (by simp only [show (y2 : ℕ) / 256 % 4 % 2 = y2 / 256 % 2 by omega]) ?_ rfl
  congr 3
  · ext; simp; omega
  · ext; simp; omega

/-- What the kernel stores as its queries, from the eight tiles it loads. -/
theorem k0_pay48_eq (x : S1x8x128x512.Idx → EReal) (u0 u1 u2 u3 u4 u5 u6 u7 : Vec Ideal S1x1x128x512 .f32)
    (h0 : ∀ l i, (u0 (ix4 0 0 l i) : EReal) = x (ix4 0 0 l i))
    (h1 : ∀ l i, (u1 (ix4 0 0 l i) : EReal) = x (ix4 0 1 l i))
    (h2 : ∀ l i, (u2 (ix4 0 0 l i) : EReal) = x (ix4 0 2 l i))
    (h3 : ∀ l i, (u3 (ix4 0 0 l i) : EReal) = x (ix4 0 3 l i))
    (h4 : ∀ l i, (u4 (ix4 0 0 l i) : EReal) = x (ix4 0 4 l i))
    (h5 : ∀ l i, (u5 (ix4 0 0 l i) : EReal) = x (ix4 0 5 l i))
    (h6 : ∀ l i, (u6 (ix4 0 0 l i) : EReal) = x (ix4 0 6 l i))
    (h7 : ∀ l i, (u7 (ix4 0 0 l i) : EReal) = x (ix4 0 7 l i)) :
    k0_pay48 (k0_pay3 (u0)) (k0_pay4 (u0)) (k0_pay6 (u0)) (k0_pay7 (u0))
      (k0_pay10 (k0_pay8 (u1))) (k0_pay11 (k0_pay8 (u1))) (k0_pay13 (u1)) (k0_pay14 (u1))
      (k0_pay16 (k0_pay15 (u2))) (k0_pay17 (k0_pay15 (u2))) (k0_pay19 (u2)) (k0_pay20 (u2))
      (k0_pay22 (u3)) (k0_pay23 (u3)) (k0_pay26 (k0_pay24 (u3))) (k0_pay27 (k0_pay24 (u3)))
      (k0_pay29 (u4)) (k0_pay30 (u4)) (k0_pay32 (k0_pay31 (u4))) (k0_pay33 (k0_pay31 (u4)))
      (k0_pay35 (u5)) (k0_pay36 (u5)) (k0_pay38 (u5)) (k0_pay39 (u5))
      (k0_pay42 (k0_pay40 (u6))) (k0_pay43 (k0_pay40 (u6))) (k0_pay45 (u6)) (k0_pay46 (u6)) (k0_pay47 (u7)) u7
      = fun y => q12F x (y 1) (y 2) :=
  (concat_queries ![u0, u1, u2, u3, u4, u5, u6, u7]).trans
    (queries_at x ![u0, u1, u2, u3, u4, u5, u6, u7] fun t l i => by
      fin_cases t
      exacts [h0 l i, h1 l i, h2 l i, h3 l i, h4 l i, h5 l i, h6 l i, h7 l i])

end Cert.KernelIdeal.Band

end
-- ==== Proof.Attend.lean ====
/- Chunked band attention as mathematics: each position attends to the 576 positions that end with its own chunk of
   64, with a bias that depends on the clipped distance; and the same scores in the kernel's layout, 768 positions
   that end with the position's block of 256, of which the band is a part. -/
module

public import proofs.«01_k».proof.Proof.Softmax

@[expose] public section

noncomputable section

namespace Cert.Attend

open Idealize.ShloMosaic Cert.Softmax

/-- A real number. -/
def IsReal (x : EReal) : Prop := x ≠ ⊤ ∧ x ≠ ⊥

theorem IsReal.coe {x : EReal} (h : IsReal x) : x = (x.toReal : EReal) := (EReal.coe_toReal h.1 h.2).symm

variable (q k v : Fin 8 → Fin 4096 → Fin 8 → Fin 64 → EReal) (tb : Fin 8 → Fin 257 → EReal)

/-- The scaled product of a query and a key, with the bias of their distance. -/
def dotq (b h : Fin 8) (g s : Fin 4096) (r : Fin 257) : EReal :=
  (∑ l : Fin 64, q b g h l * k b s h l) * ((1 / 8 : ℝ) : EReal) + tb h r

/-- The score of band position `kk` for query `g`: masked before the sequence's start. -/
def score (b h : Fin 8) (g : Fin 4096) (kk : Fin 576) : EReal :=
  if hv : 512 ≤ 64 * ((g : ℕ) / 64) + kk then
    dotq q k tb b h g ⟨64 * (g / 64) + kk - 512, by omega⟩ ⟨min 256 (640 + g % 64 - kk), by omega⟩
  else ⊥

/-- The value at band position `kk`: zero before the sequence's start. -/
def value (b h : Fin 8) (g : Fin 4096) (e : Fin 64) (kk : Fin 576) : EReal :=
  if hv : 512 ≤ 64 * ((g : ℕ) / 64) + kk then v b ⟨64 * (g / 64) + kk - 512, by omega⟩ h e else 0

/-- Band attention at one element. -/
def attend (b h : Fin 8) (g : Fin 4096) (e : Fin 64) : EReal :=
  soft (score q k tb b h g) (value v b h g e) (Finset.univ.fold max ⊥ (score q k tb b h g))

/-- The score of tile position `j` of 768 for query `g`, in the kernel's layout. -/
def tscore (b h : Fin 8) (g : Fin 4096) (p : Fin 3 × Fin 256) : EReal :=
  if hv : 2 ≤ (g : ℕ) / 256 + p.1 ∧ (g : ℕ) % 256 / 64 ≤ (256 * (p.1 : ℕ) + p.2) / 64
      ∧ (256 * (p.1 : ℕ) + p.2) / 64 ≤ (g : ℕ) % 256 / 64 + 8 then
    dotq q k tb b h g ⟨256 * (g / 256 + p.1 - 2) + p.2, by omega⟩ ⟨min 256 (640 + g % 256 - (256 * p.1 + p.2)), by omega⟩
  else ⊥

theorem dotq_fin (hq : ∀ b g h l, IsReal (q b g h l)) (hk : ∀ b g h l, IsReal (k b g h l)) (ht : ∀ h r, IsReal (tb h r))
    (b h : Fin 8) (g s : Fin 4096) (r : Fin 257) : IsReal (dotq q k tb b h g s r) := by
  have : dotq q k tb b h g s r
      = (((∑ l : Fin 64, (q b g h l).toReal * (k b s h l).toReal) * (1 / 8) + (tb h r).toReal : ℝ) : EReal) := by
    unfold dotq
    rw [EReal.coe_add, EReal.coe_mul, ← (ht h r).coe,
      show ((∑ l : Fin 64, (q b g h l).toReal * (k b s h l).toReal : ℝ) : EReal)
        = ∑ l : Fin 64, (((q b g h l).toReal * (k b s h l).toReal : ℝ) : EReal)
        from map_sum (⟨⟨Real.toEReal, rfl⟩, EReal.coe_add⟩ : ℝ →+ EReal) _ _]
    congr 2
    exact Finset.sum_congr rfl fun l _ => by rw [EReal.coe_mul, ← (hq b g h l).coe, ← (hk b s h l).coe]
  rw [this]
  exact ⟨EReal.coe_ne_top _, EReal.coe_ne_bot _⟩

/-- Where band position `kk` of query `g` lies in the tile. -/
def place (g : Fin 4096) (kk : Fin 576) : Fin 3 × Fin 256 :=
  (⟨(kk + 64 * (g % 256 / 64)) / 256, by omega⟩, ⟨(kk + 64 * (g % 256 / 64)) % 256, by omega⟩)

theorem place_inj (g : Fin 4096) : Function.Injective (place g) := by
  intro x y h
  simp only [place, Prod.mk.injEq, Fin.mk.injEq] at h
  apply Fin.ext; omega

theorem tscore_place (b h : Fin 8) (g : Fin 4096) (kk : Fin 576) :
    tscore q k tb b h g (place g kk) = score q k tb b h g kk := by
  have hg := g.isLt
  have hkk := kk.isLt
  unfold tscore score place
  simp only []
  by_cases hv : 512 ≤ 64 * ((g : ℕ) / 64) + kk
  · rw [dif_pos hv, dif_pos (by omega)]
    congr 1 <;> apply Fin.ext <;> simp only [] <;> omega
  · rw [dif_neg hv, dif_neg (by omega)]

theorem tscore_out (b h : Fin 8) (g : Fin 4096) (p : Fin 3 × Fin 256) (hp : ∀ kk, place g kk ≠ p) :
    tscore q k tb b h g p = ⊥ := by
  obtain ⟨d, j⟩ := p
  unfold tscore
  rw [dif_neg]
  rintro ⟨h1, h2, h3⟩
  simp only [] at h1 h2 h3
  have hj := j.isLt
  refine hp ⟨256 * d + j - 64 * (g % 256 / 64), by omega⟩ ?_
  simp only [place]
  refine Prod.ext (Fin.ext ?_) (Fin.ext ?_) <;> simp only [] <;> omega

theorem score_ne_top (hq : ∀ b g h l, IsReal (q b g h l)) (hk : ∀ b g h l, IsReal (k b g h l)) (ht : ∀ h r, IsReal (tb h r))
    (b h : Fin 8) (g : Fin 4096) (kk : Fin 576) : score q k tb b h g kk ≠ ⊤ := by
  unfold score; split
  · exact (dotq_fin q k tb hq hk ht ..).1
  · exact bot_ne_top

theorem score_own (hq : ∀ b g h l, IsReal (q b g h l)) (hk : ∀ b g h l, IsReal (k b g h l)) (ht : ∀ h r, IsReal (tb h r))
    (b h : Fin 8) (g : Fin 4096) : ∃ kk, score q k tb b h g kk ≠ ⊥ := by
  refine ⟨⟨512, by norm_num⟩, ?_⟩
  unfold score
  rw [dif_pos (by simp)]
  exact (dotq_fin q k tb hq hk ht ..).2

/-- A chain's division is band attention: `w` the tile's values, `M` any real reference point. -/
theorem div_tile (hq : ∀ b g h l, IsReal (q b g h l)) (hk : ∀ b g h l, IsReal (k b g h l)) (ht : ∀ h r, IsReal (tb h r))
    (b h : Fin 8) (g : Fin 4096) (e : Fin 64) (w u : Fin 3 × Fin 256 → EReal) (M : ℝ)
    (hw : ∀ p : Fin 3 × Fin 256, (hp : 2 ≤ (g : ℕ) / 256 + p.1) → w p = v b ⟨256 * (g / 256 + p.1 - 2) + p.2, by omega⟩ h e)
    (hu : ∀ p : Fin 3 × Fin 256, 2 ≤ (g : ℕ) / 256 + p.1 → u p = 1) :
    Ideal.div (acc (fun p => tscore q k tb b h g p * log2e) w M) (acc (fun p => tscore q k tb b h g p * log2e) u M)
      = attend q k v tb b h g e := by
  have h2 : 0 < (Real.log 2)⁻¹ := inv_pos.2 (Real.log_pos (by norm_num))
  have hbot : (⊥ : EReal) * log2e = ⊥ := EReal.bot_mul_coe_of_pos h2
  have hst := score_ne_top q k tb hq hk ht b h g
  have hso := score_own q k tb hq hk ht b h g
  obtain ⟨R, hR⟩ := fold_max_coe hst hso
  have hg := g.isLt
  have hout : ∀ p, (∀ kk, place g kk ≠ p) → tscore q k tb b h g p * log2e = ⊥ := fun p hp => by
    rw [tscore_out q k tb b h g p hp, hbot]
  have hs : ∀ kk, tscore q k tb b h g (place g kk) * log2e = score q k tb b h g kk * log2e := fun kk => by
    rw [tscore_place]
  have hne : ∀ kk, score q k tb b h g kk * log2e ≠ ⊥ → 512 ≤ 64 * ((g : ℕ) / 64) + kk := fun kk hkk => by
    by_contra hc
    exact hkk (by rw [score, dif_neg hc, hbot])
  rw [attend, hR, ← div_acc hst hso (value v b h g e) M R,
    acc_embed (place g) (place_inj g) hout hs (fun kk hkk => ?_) M,
    acc_embed (w := u) (v := fun _ => 1) (place g) (place_inj g) hout hs (fun kk hkk => ?_) M]
  · have := hne kk hkk
    have hk' := kk.isLt
    exact hu _ (by simp only [place]; omega)
  · have hc := hne kk hkk
    have hk' := kk.isLt
    rw [hw _ (by simp only [place]; omega), value, dif_pos hc]
    congr 1
    apply Fin.ext; simp only [place]; omega

end Cert.Attend

end
-- ==== Proof.Block.lean ====
/- One block of the banded-attention kernel's output, at an element, is band attention. -/
module

public import proofs.«01_k».proof.Proof.Queries
public import proofs.«01_k».proof.Proof.Attend

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax Cert.Attend

/-- The kernel's score of key part `d` at row `j` for column `x` of chain `c`, from its blocks. -/
def kscore (x0 : S1x8x128x512.Idx → EReal) (x1 : S1x4096x128.Idx → EReal) (x3 : S1x768x512.Idx → EReal)
    (c : Fin 16) (d : Fin 3) (j : Fin 256) (x : Fin 512) : EReal :=
  if 2 ≤ (c : ℕ) + d then
    (∑ l : Fin 128, x1 (ix3 0 ⟨256 * (c + d - 2) + j, by omega⟩ l) * q12F x0 l ⟨512 * c + x, by omega⟩)
      + x3 (ix3 0 ⟨256 * d + j, by omega⟩ x) * log2e
  else ⊥

/-- The kernel's value of key part `d` at column `j`, row `e`, for chain `c`. -/
def kvalue (x2 : S1x8x144x512.Idx → EReal) (c : Fin 16) (d : Fin 3) (e : Fin 144) (j : Fin 256) : EReal :=
  x2 (ix4 0 ⟨(256 * (c + d - 2) + j) / 512, by omega⟩ e ⟨(256 * (c + d - 2) + j) % 512, by omega⟩)

/-- The blocks a grid point reads, in terms of the arrays: batch `b`, heads `2p` and `2p+1`. -/
structure Reads (q k v : Fin 8 → Fin 4096 → Fin 8 → Fin 64 → EReal) (tb : Fin 8 → Fin 257 → EReal) (b : Fin 8) (p : Fin 4)
    (x0 : S1x8x128x512.Idx → EReal) (x1 : S1x4096x128.Idx → EReal) (x2 : S1x8x144x512.Idx → EReal)
    (x3 : S1x768x512.Idx → EReal) : Prop where
  q : ∀ (t : Fin 8) (l : Fin 128) (y : Fin 512), x0 (ix4 0 t l y)
    = q b ⟨512 * t + y, by omega⟩ ⟨2 * p + l / 64, by omega⟩ ⟨l % 64, by omega⟩
  k : ∀ (g : Fin 4096) (l : Fin 128), x1 (ix3 0 g l) = k b g ⟨2 * p + l / 64, by omega⟩ ⟨l % 64, by omega⟩
  v : ∀ (t : Fin 8) (e : Fin 144) (y : Fin 512) (he : (e : ℕ) < 128), x2 (ix4 0 t e y)
    = v b ⟨512 * t + y, by omega⟩ ⟨2 * p + e / 64, by omega⟩ ⟨e % 64, by omega⟩
  one : ∀ (t : Fin 8) (y : Fin 512), x2 (ix4 0 t 128 y) = 1
  bias : ∀ (j : Fin 768) (x : Fin 512), x3 (ix3 0 j x)
    = if (x : ℕ) % 256 / 64 ≤ (j : ℕ) / 64 ∧ (j : ℕ) / 64 ≤ (x : ℕ) % 256 / 64 + 8 then
        tb ⟨2 * p + x / 256, by omega⟩ ⟨min 256 (640 + x % 256 - j), by omega⟩ else ⊥

variable {q k v : Fin 8 → Fin 4096 → Fin 8 → Fin 64 → EReal} {tb : Fin 8 → Fin 257 → EReal} {b : Fin 8} {p : Fin 4}
  {x0 : S1x8x128x512.Idx → EReal} {x1 : S1x4096x128.Idx → EReal} {x2 : S1x8x144x512.Idx → EReal}
  {x3 : S1x768x512.Idx → EReal}

theorem qk_eq : qk = ((1 / 8 : ℝ) : EReal) * log2e := by rw [qk, log2e, ← EReal.coe_mul]

theorem log2e_nonneg : (0 : ℝ) ≤ (Real.log 2)⁻¹ := (inv_pos.2 (Real.log_pos (by norm_num))).le

/-- A sum over both heads' rows with the other head's zeroed is the sum over one head's rows. -/
theorem sum_head (f : Fin 128 → EReal) (hh : Fin 2) :
    (∑ l : Fin 128, if ((l : ℕ) < 64 ↔ (hh : ℕ) = 0) then f l else 0) = ∑ l : Fin 64, f ⟨64 * hh + l, by omega⟩ := by
  rw [Fin.sum_univ_two_halves 64 64 rfl]
  fin_cases hh
  · rw [Finset.sum_congr rfl fun l _ => if_pos (by simp), Finset.sum_congr rfl fun l _ => if_neg (by simp)]
    simp
  · rw [Finset.sum_congr rfl fun l _ => if_neg (by simp), Finset.sum_congr rfl fun l _ => if_pos (by simp)]
    simp

theorem kscore_eq (hr : Reads q k v tb b p x0 x1 x2 x3) (c : Fin 16) (d : Fin 3) (j : Fin 256) (x : Fin 512) :
    kscore x0 x1 x3 c d j x
      = tscore q k tb b ⟨2 * p + x / 256, by omega⟩ ⟨256 * c + x % 256, by omega⟩ (d, j) * log2e := by
  have hbot : (⊥ : EReal) * log2e = ⊥ := EReal.bot_mul_coe_of_pos (inv_pos.2 (Real.log_pos (by norm_num)))
  have hx := x.isLt
  have hc := c.isLt
  unfold kscore tscore
  simp only []
  by_cases h1 : 2 ≤ (c : ℕ) + d
  · rw [if_pos h1, hr.bias]
    simp only []
    by_cases h2 : (x : ℕ) % 256 / 64 ≤ (256 * (d : ℕ) + j) / 64 ∧ (256 * (d : ℕ) + j) / 64 ≤ (x : ℕ) % 256 / 64 + 8
    · rw [if_pos h2, dif_pos (by omega), dotq, log2e, EReal.right_distrib_of_nonneg_of_ne_top (by exact_mod_cast log2e_nonneg)
        (EReal.coe_ne_top _)]
      congr 1
      · have hl : ∀ l : Fin 128, x1 (ix3 0 ⟨256 * (c + d - 2) + j, by omega⟩ l) * q12F x0 l ⟨512 * c + x, by omega⟩
            = if ((l : ℕ) < 64 ↔ ((⟨x / 256, by omega⟩ : Fin 2) : ℕ) = 0) then
                k b ⟨256 * (c + d - 2) + j, by omega⟩ ⟨2 * p + l / 64, by omega⟩ ⟨l % 64, by omega⟩
                  * (q b ⟨256 * c + x % 256, by omega⟩ ⟨2 * p + l / 64, by omega⟩ ⟨l % 64, by omega⟩ * qk) else 0 := by
          intro l
          rw [hr.k, q12F]
          simp only [show (512 * (c : ℕ) + x) / 256 % 2 = x / 256 by omega]
          split
          · rw [hr.q]
            congr 2
            congr 1
            apply Fin.ext; simp only []; omega
          · rw [mul_zero]
        rw [Finset.sum_congr rfl fun l _ => hl l, sum_head, qk_eq, mul_assoc, mul_comm (∑ l : Fin 64, _ * _), log2e,
          ← EReal.coe_mul, coe_mul_sum _ _ (mul_nonneg (by norm_num) log2e_nonneg)]
        refine Finset.sum_congr rfl fun l _ => ?_
        rw [← mul_assoc, mul_comm]
        congr 1
        rw [mul_comm]
        have e1 : (64 * ((x : ℕ) / 256) + l) / 64 = x / 256 := by omega
        have e2 : (64 * ((x : ℕ) / 256) + l) % 64 = l := by omega
        congr 1
        · congr 1 <;> apply Fin.ext <;> simp only [] <;> omega
        · congr 1 <;> apply Fin.ext <;> simp only [] <;> omega
      · congr 2
        apply Fin.ext; simp only []; omega
    · rw [if_neg h2, hbot, EReal.add_bot, dif_neg (by omega), hbot]
  · rw [if_neg h1, dif_neg (by omega), hbot]

/-- What a chain's score blocks and value blocks are. -/
structure Chain (x0 : S1x8x128x512.Idx → EReal) (x1 : S1x4096x128.Idx → EReal) (x2 : S1x8x144x512.Idx → EReal)
    (x3 : S1x768x512.Idx → EReal) (c : Fin 16) (s2 s1 s0 : FVec Ideal S256x512 .f32) (v2 v1 v0 : Vec Ideal S1x1x144x256 .bf16) :
    Prop where
  s2 : ∀ j x, (s2 (ix2 j x) : EReal) = kscore x0 x1 x3 c 2 j x
  s1 : ∀ j x, (s1 (ix2 j x) : EReal) = kscore x0 x1 x3 c 1 j x
  s0 : ∀ j x, (s0 (ix2 j x) : EReal) = kscore x0 x1 x3 c 0 j x
  v2 : ∀ e j, (v2 (ix4 0 0 e j) : EReal) = kvalue x2 c 2 e j
  v1 : 1 ≤ (c : ℕ) → ∀ e j, (v1 (ix4 0 0 e j) : EReal) = kvalue x2 c 1 e j
  v0 : 2 ≤ (c : ℕ) → ∀ e j, (v0 (ix4 0 0 e j) : EReal) = kvalue x2 c 0 e j

theorem tscore_scaled_ne_top (hq : ∀ b g h l, IsReal (q b g h l)) (hk : ∀ b g h l, IsReal (k b g h l)) (ht : ∀ h r, IsReal (tb h r))
    (h : Fin 8) (g : Fin 4096) (y : Fin 3 × Fin 256) : tscore q k tb b h g y * log2e ≠ ⊤ := by
  have hbot : (⊥ : EReal) * log2e = ⊥ := EReal.bot_mul_coe_of_pos (inv_pos.2 (Real.log_pos (by norm_num)))
  unfold tscore; split
  · rw [(dotq_fin q k tb hq hk ht ..).coe, log2e, ← EReal.coe_mul]; exact EReal.coe_ne_top _
  · rw [hbot]; exact bot_ne_top

/-- A chain's sums at column `x`, divided by the weights' total, are band attention at its query. -/
theorem chain_div (hr : Reads q k v tb b p x0 x1 x2 x3) (hq : ∀ b g h l, IsReal (q b g h l)) (hk : ∀ b g h l, IsReal (k b g h l))
    (ht : ∀ h r, IsReal (tb h r)) (c : Fin 16) {s2 s1 s0 : FVec Ideal S256x512 .f32} {v2 v1 v0 : Vec Ideal S1x1x144x256 .bf16}
    (hc : Chain x0 x1 x2 x3 c s2 s1 s0 v2 v1 v0) (x : Fin 512) (e : Fin 64) :
    Ideal.div (chainV s2 s1 s0 v2 v1 v0 (ix2 ⟨64 * (x / 256) + e, by omega⟩ x)) (chainV s2 s1 s0 v2 v1 v0 (ix2 128 x))
      = attend q k v tb b ⟨2 * p + x / 256, by omega⟩ ⟨256 * c + x % 256, by omega⟩ e := by
  have hx := x.isLt
  have hcl := c.isLt
  set h : Fin 8 := ⟨2 * p + x / 256, by omega⟩ with hh
  set g : Fin 4096 := ⟨256 * c + x % 256, by omega⟩ with hg
  have hgd : (g : ℕ) / 256 = c := by simp only [hg]; omega
  have e2 : (fun j : Fin 256 => (s2 (ix2 j x) : EReal)) = fun j => tscore q k tb b h g (2, j) * log2e :=
    funext fun j => (hc.s2 j x).trans (kscore_eq hr c 2 j x)
  have e1 : (fun j : Fin 256 => (s1 (ix2 j x) : EReal)) = fun j => tscore q k tb b h g (1, j) * log2e :=
    funext fun j => (hc.s1 j x).trans (kscore_eq hr c 1 j x)
  have e0 : (fun j : Fin 256 => (s0 (ix2 j x) : EReal)) = fun j => tscore q k tb b h g (0, j) * log2e :=
    funext fun j => (hc.s0 j x).trans (kscore_eq hr c 0 j x)
  have nt := tscore_scaled_ne_top (b := b) hq hk ht h g
  obtain ⟨M, hM⟩ := chainV_at s2 s1 s0 v2 v1 v0 x (fun j => by rw [congrFun e2 j]; exact nt _)
    (fun j => by rw [congrFun e1 j]; exact nt _) (fun j => by rw [congrFun e0 j]; exact nt _)
    ⟨⟨x % 256, by omega⟩, by
      rw [congrFun e2 _, tscore, dif_pos ⟨by simp, by simp only [hg]; omega, by simp only [hg]; omega⟩,
        (dotq_fin q k tb hq hk ht ..).coe, log2e, ← EReal.coe_mul]
      exact EReal.coe_ne_bot _⟩
  have key : ∀ e' : Fin 144, chainV s2 s1 s0 v2 v1 v0 (ix2 e' x)
      = acc (fun y => tscore q k tb b h g y * log2e) (fun y => kvalue x2 c y.1 e' y.2) M := by
    intro e'
    have hmask : ∀ (d : Fin 3) (w : Fin 256 → EReal), (2 ≤ (c : ℕ) + d → w = fun j => kvalue x2 c d e' j) →
        acc (fun j : Fin 256 => tscore q k tb b h g (d, j) * log2e) w M
          = acc (fun j : Fin 256 => tscore q k tb b h g (d, j) * log2e) (fun j => kvalue x2 c d e' j) M := by
      intro d w hw
      by_cases hcd : 2 ≤ (c : ℕ) + d
      · rw [hw hcd]
      · have hb : ∀ j, tscore q k tb b h g (d, j) * log2e = ⊥ := fun j => by
          rw [tscore, dif_neg (by simp only []; omega)]
          exact EReal.bot_mul_coe_of_pos (inv_pos.2 (Real.log_pos (by norm_num)))
        refine Finset.sum_congr rfl fun j _ => ?_
        simp only [hb]; simp
    rw [hM, e2, e1, e0, hmask 2 _ fun _ => funext fun j => hc.v2 e' j,
      hmask 1 _ fun h1 => funext fun j => hc.v1 (by simp at h1; omega) e' j,
      hmask 0 _ fun h0 => funext fun j => hc.v0 (by simpa using h0) e' j]
    simp only [acc, Fintype.sum_prod_type, Fin.sum_univ_three]
    rw [add_comm, ← add_assoc, add_right_comm, add_assoc]
  rw [key, key]
  refine div_tile q k v tb hq hk ht b h g e _ _ M (fun y hy => ?_) fun y _ => hr.one _ _
  rw [kvalue, hr.v _ _ _ (by simp only []; omega)]
  simp only [hh]
  congr 1 <;> apply Fin.ext <;> simp only [] <;> omega

/-- A stored block of 512 rows, two chains, at an element. -/
theorem out_point (hr : Reads q k v tb b p x0 x1 x2 x3) (hq : ∀ b g h l, IsReal (q b g h l)) (hk : ∀ b g h l, IsReal (k b g h l))
    (ht : ∀ h r, IsReal (tb h r)) (c c' : Fin 16) (hcc : (c' : ℕ) = c + 1)
    {s2 s1 s0 s2' s1' s0' : FVec Ideal S256x512 .f32} {v2 v1 v0 v2' v1' v0' : Vec Ideal S1x1x144x256 .bf16}
    (hc : Chain x0 x1 x2 x3 c s2 s1 s0 v2 v1 v0) (hc' : Chain x0 x1 x2 x3 c' s2' s1' s0' v2' v1' v0')
    (r : Fin 512) (e : Fin 128) :
    outV (chainV s2 s1 s0 v2 v1 v0) (chainV s2' s1' s0' v2' v1' v0') (ix3 0 r e)
      = attend q k v tb b ⟨2 * p + e / 64, by omega⟩ ⟨256 * c + r, by omega⟩ ⟨e % 64, by omega⟩ := by
  have he := e.isLt
  have hrl := r.isLt
  rw [outV_at]
  by_cases h : (r : ℕ) < 256 <;> by_cases h' : (e : ℕ) < 64
  · rw [dif_pos h, dif_pos h']
    refine Eq.trans ?_ ((chain_div hr hq hk ht c hc r ⟨e, h'⟩).trans ?_)
    · congr 3; apply Fin.ext; simp only []; omega
    · congr 1 <;> apply Fin.ext <;> simp only [] <;> omega
  · rw [dif_pos h, dif_neg h']
    refine Eq.trans ?_ ((chain_div hr hq hk ht c hc ⟨256 + r, by omega⟩ ⟨e - 64, by omega⟩).trans ?_)
    · congr 3; apply Fin.ext; simp only []; omega
    · congr 1 <;> apply Fin.ext <;> simp only [] <;> omega
  · rw [dif_neg h, dif_pos h']
    refine Eq.trans ?_ ((chain_div hr hq hk ht c' hc' ⟨r - 256, by omega⟩ ⟨e, h'⟩).trans ?_)
    · congr 3; apply Fin.ext; simp only []; omega
    · congr 1 <;> apply Fin.ext <;> simp only [] <;> omega
  · rw [dif_neg h, dif_neg h']
    refine Eq.trans ?_ ((chain_div hr hq hk ht c' hc' r ⟨e - 64, by omega⟩).trans ?_)
    · congr 3; apply Fin.ext; simp only []; omega
    · congr 1 <;> apply Fin.ext <;> simp only [] <;> omega

/-- A score block read off its operands. -/
theorem score_fact (c : Fin 16) (d : Fin 3) {kb : Vec Ideal S1x256x128 .bf16} {q' : Vec Ideal S1x128x512 .bf16} {bi : Vec Ideal S1x256x512 .f32}
    (h : 2 ≤ (c : ℕ) + d)
    (hk : ∀ j l, (kb (ix3 0 j l) : EReal) = x1 (ix3 0 ⟨256 * (c + d - 2) + j, by omega⟩ l))
    (hq : ∀ l x, (q' (ix3 0 l x) : EReal) = q12F x0 l ⟨512 * c + x, by omega⟩)
    (hb : ∀ j x, (bi (ix3 0 j x) : EReal) = x3 (ix3 0 ⟨256 * d + j, by omega⟩ x)) (j : Fin 256) (x : Fin 512) :
    (scoreV kb q' bi (ix2 j x) : EReal) = kscore x0 x1 x3 c d j x := by
  rw [scoreV_at, kscore, if_pos h, hb]
  congr 1
  exact Finset.sum_congr rfl fun l _ => by rw [hk, hq]

/-- A score block before the sequence's beginning. -/
theorem mask_fact (c : Fin 16) (d : Fin 3) (s : FVec Ideal S256x512 .f32) (h : ¬ 2 ≤ (c : ℕ) + d) (j : Fin 256) (x : Fin 512) :
    (maskV s (ix2 j x) : EReal) = kscore x0 x1 x3 c d j x := by
  rw [maskV_at, kscore, if_neg h]

end Cert.KernelIdeal.Band
-- ==== Proof.Words.lean ====
/- Words of the index arithmetic, and gathers along one axis, read at an element. -/
module

public import Idealize.ShloMosaic.Lib.Pointwise
public import Idealize.ShloMosaic.Lib.ValueIdxCoords

@[expose] public section

namespace Cert.Words

open Idealize.ShloMosaic

/-- A small difference of words, read signed. -/
theorem sub_int (a b : ℕ) (ha : a < 2000) (hb : b < 2000) :
    (IntOp.subi (BitVec.ofNat 32 a) (BitVec.ofNat 32 b)).toInt = (a : ℤ) - b := by
  unfold IntOp.subi
  rw [BitVec.toInt_sub, BitVec.toInt_ofNat', BitVec.toInt_ofNat']
  simp only [Int.bmod]
  norm_num
  omega

/-- The clipped distance: the table's place, without a wrap. -/
theorem clip_word (d : BitVec 32) (D : ℤ) (hd : d.toInt = D) :
    (Scalar.select (IntOp.cmpi .slt (IntOp.addi (IntOp.minsi 128#32 (IntOp.maxsi 4294967168#32 d)) 128#32) 0#32)
      (IntOp.addi (IntOp.addi (IntOp.minsi 128#32 (IntOp.maxsi 4294967168#32 d)) 128#32) 257#32)
      (IntOp.addi (IntOp.minsi 128#32 (IntOp.maxsi 4294967168#32 d)) 128#32)).toInt.toNat
      = (min 256 (D + 128)).toNat := by
  have h1 : (4294967168#32).toInt = -128 := by decide
  have h2 : (128#32).toInt = 128 := by decide
  have hm : (IntOp.minsi 128#32 (IntOp.maxsi 4294967168#32 d)).toInt = min 128 (max (-128) D) := by
    unfold IntOp.minsi IntOp.maxsi
    simp only [BitVec.slt, h1, h2, hd, decide_eq_true_eq]
    split_ifs <;> simp only [h1, h2, hd] at * <;> omega
  have ha : (IntOp.addi (IntOp.minsi 128#32 (IntOp.maxsi 4294967168#32 d)) 128#32).toInt = min 256 (max 0 (D + 128)) := by
    unfold IntOp.addi
    rw [BitVec.toInt_add, hm, h2]
    simp only [Int.bmod]
    norm_num
    omega
  generalize IntOp.addi (IntOp.minsi 128#32 (IntOp.maxsi 4294967168#32 d)) 128#32 = w at ha ⊢
  have h0 : IntOp.cmpi .slt w 0#32 = 0#1 := by
    unfold IntOp.cmpi
    have : w.slt 0#32 = false := by
      simp only [BitVec.slt, ha]
      simp
    rw [this]; rfl
  rw [h0]
  show w.toInt.toNat = _
  rw [ha]
  omega

/-- A gather of the columns of a table `[H, N]` by a table of places `[R, C]`. -/
theorem gather_cols {α : Type} {H N R C w : ℕ} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (s : Fin C) :
    Host.gather (⟨[0], [1], [], [], [1], 2, ![H, 1], wf⟩ : GatherDims ⟨2, ![H, N]⟩ ⟨3, ![R, C, 1]⟩ ⟨3, ![H, R, C]⟩) x idx (ix3 h r s)
      = x (ix2 h ⟨min (idx (ix3 r s 0)).toInt.toNat (N - 1), by omega⟩) := by
  unfold Host.gather
  congr 1
  funext a
  refine Fin.ext ?_
  match a with
  | ⟨0, _⟩ =>
    show 0 + 0 + h.val = h.val
    omega
  | ⟨1, _⟩ =>
    refine congrArg (fun i => min (idx i).toInt.toNat (N - 1)) (?_ : _ = ix3 r s 0)
    funext b
    match b with
    | ⟨0, _⟩ => rfl
    | ⟨1, _⟩ => rfl
    | ⟨2, _⟩ => rfl

/-- A gather of slices of axis 1 of five by a table of places `[R, C]`. -/
theorem gather_slices {α : Type} {A N P Q E R C w : ℕ} (hN : 0 < N)
    (wf : GatherDims.WF ⟨5, ![A, N, P, Q, E]⟩ ⟨3, ![R, C, 1]⟩ ⟨6, ![A, R, C, P, Q, E]⟩ [0, 3, 4, 5] [1] [] [1] [] 2 ![A, 1, P, Q, E])
    (x : (⟨5, ![A, N, P, Q, E]⟩ : Shape).Idx → α) (idx : IVec ⟨3, ![R, C, 1]⟩ w)
    (a : Fin A) (r : Fin R) (s : Fin C) (p : Fin P) (q : Fin Q) (e : Fin E) :
    Host.gather (⟨[0, 3, 4, 5], [1], [], [], [1], 2, ![A, 1, P, Q, E], wf⟩ : GatherDims ⟨5, ![A, N, P, Q, E]⟩ ⟨3, ![R, C, 1]⟩ ⟨6, ![A, R, C, P, Q, E]⟩)
      x idx (ix6 a r s p q e) = x (ix5 a ⟨min (idx (ix3 r s 0)).toInt.toNat (N - 1), by omega⟩ p q e) := by
  unfold Host.gather
  congr 1
  funext z
  refine Fin.ext ?_
  match z with
  | ⟨0, _⟩ => show 0 + 0 + a.val = a.val; omega
  | ⟨1, _⟩ =>
    refine congrArg (fun i => min (idx i).toInt.toNat (N - 1)) (?_ : _ = ix3 r s 0)
    funext b
    match b with
    | ⟨0, _⟩ => rfl
    | ⟨1, _⟩ => rfl
    | ⟨2, _⟩ => rfl
  | ⟨2, _⟩ => show 0 + 0 + p.val = p.val; omega
  | ⟨3, _⟩ => show 0 + 0 + q.val = q.val; omega
  | ⟨4, _⟩ => show 0 + 0 + e.val = e.val; omega

/-- The quotient by 64 as the host line computes it, rounding down. -/
def fdiv (n : BitVec 32) : BitVec 32 :=
  Scalar.select
    (IntOp.andi
      (IntOp.cmpi CmpIPredicate.ne (if n = 0 then (0 : BitVec 32) else if n.msb = true then -1 else 1)
        (if 64#32 = 0 then (0 : BitVec 32) else if (64#32).msb = true then -1 else 1))
      (IntOp.cmpi CmpIPredicate.ne (IntOp.remsi ArithUnit.host n 64#32) 0#32))
    (IntOp.subi (IntOp.divsi ArithUnit.host n 64#32) 1#32)
    (IntOp.divsi ArithUnit.host n 64#32)

theorem fdiv_eq : ∀ n : Fin 768, fdiv (BitVec.ofNat 32 n) = BitVec.ofNat 32 (n / 64) := by
  decide +kernel

/-- The comparison of blocks: at most eight behind. -/
def near (x j : BitVec 32) : BitVec 1 :=
  IntOp.andi (IntOp.cmpi .sge (IntOp.subi (IntOp.addi x 8#32) j) 0#32) (IntOp.cmpi .sle (IntOp.subi (IntOp.addi x 8#32) j) 8#32)

theorem near_eq : ∀ (x : Fin 4) (j : Fin 12), near (BitVec.ofNat 32 x) (BitVec.ofNat 32 j)
    = if (x : ℕ) ≤ j ∧ (j : ℕ) ≤ x + 8 then 1#1 else 0#1 := by
  decide +kernel

theorem near_div (x j : ℕ) (hx : x < 256) (hj : j < 768) : near (fdiv (BitVec.ofNat 32 x)) (fdiv (BitVec.ofNat 32 j))
    = if x / 64 ≤ j / 64 ∧ j / 64 ≤ x / 64 + 8 then 1#1 else 0#1 := by
  rw [show fdiv (BitVec.ofNat 32 x) = BitVec.ofNat 32 (x / 64) from fdiv_eq ⟨x, by omega⟩,
    show fdiv (BitVec.ofNat 32 j) = BitVec.ofNat 32 (j / 64) from fdiv_eq ⟨j, hj⟩]
  exact near_eq ⟨x / 64, by omega⟩ ⟨j / 64, by omega⟩

/-- The distance's place in the table. -/
theorem place_word (x j : ℕ) (d : BitVec 32) (hx : x < 256) (hj : j < 768)
    (hd : d = IntOp.subi (BitVec.ofNat 32 (512 + x)) (BitVec.ofNat 32 j)) :
    min (Scalar.select (IntOp.cmpi .slt (IntOp.addi (IntOp.minsi 128#32 (IntOp.maxsi 4294967168#32 d)) 128#32) 0#32)
      (IntOp.addi (IntOp.addi (IntOp.minsi 128#32 (IntOp.maxsi 4294967168#32 d)) 128#32) 257#32)
      (IntOp.addi (IntOp.minsi 128#32 (IntOp.maxsi 4294967168#32 d)) 128#32)).toInt.toNat (257 - 1) = min 256 (640 + x - j) := by
  rw [clip_word d ((512 + x : ℕ) - (j : ℤ)) (by rw [hd]; exact sub_int (512 + x) j (by omega) (by omega))]
  omega

end Cert.Words

end
-- ==== Proof.Reads.lean ====
/- What a grid point reads: blocks of the arguments, as the host line lays them out. -/
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Block
public import proofs.«01_k».proof.Proof.Words

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax Cert.Attend Cert.Words

variable (m : (ℓ : Loc nD τ sig) → Buf (Elt Ideal) ℓ)

theorem V_q (c : Dev nD) (b a : Fin 8) (w y : Fin 512) : (V m c main_v9 : S8x8x512x512.Idx → EReal) (ix4 b a w y)
    = m ((c : Thread nD τ).loc main_arg0) (ix4 b ⟨512 * a + y, by omega⟩ ⟨w / 64, by omega⟩ ⟨w % 64, by omega⟩) := by
  unfold V
  simp only [List.flatten_cons, List.flatten_nil, List.cons_append, List.nil_append]
  after_reads_simp
  pointwise
  refine congrArg (m ((c : Thread nD τ).loc main_arg0)) ?_
  congr 1
  apply Fin.ext; simp only []; omega

theorem V_k (c : Dev nD) (b : Fin 8) (g : Fin 4096) (w : Fin 512) : (V m c main_v11 : S8x4096x512.Idx → EReal) (ix3 b g w)
    = m ((c : Thread nD τ).loc main_arg1) (ix4 b g ⟨w / 64, by omega⟩ ⟨w % 64, by omega⟩) := by
  unfold V
  simp only [List.flatten_cons, List.flatten_nil, List.cons_append, List.nil_append]
  after_reads_simp
  pointwise

/-- The four stretches of a value row: 128 values, then sixteen ones. -/
def nest (X : S8x4096x8x64.Idx → EReal) (b : Fin 8) (r : Fin 4096) (w : ℕ) (hw : w < 576) : EReal :=
  if h : w < 128 then X (ix4 b r ⟨w / 64, by omega⟩ ⟨w % 64, by omega⟩)
  else if h : w - 128 < 16 then 1
  else if h : w - 128 - 16 < 128 then X (ix4 b r ⟨(128 + (w - 128 - 16)) / 64, by omega⟩ ⟨(128 + (w - 128 - 16)) % 64, by omega⟩)
  else if h : w - 128 - 16 - 128 < 16 then 1
  else if h : w - 128 - 16 - 128 - 16 < 128 then
    X (ix4 b r ⟨(256 + (w - 128 - 16 - 128 - 16)) / 64, by omega⟩ ⟨(256 + (w - 128 - 16 - 128 - 16)) % 64, by omega⟩)
  else if h : w - 128 - 16 - 128 - 16 - 128 < 16 then 1
  else if h : w - 128 - 16 - 128 - 16 - 128 - 16 < 128 then
    X (ix4 b r ⟨(384 + (w - 128 - 16 - 128 - 16 - 128 - 16)) / 64, by omega⟩ ⟨(384 + (w - 128 - 16 - 128 - 16 - 128 - 16)) % 64, by omega⟩)
  else 1

theorem nest_eq (X : S8x4096x8x64.Idx → EReal) (b : Fin 8) (r : Fin 4096) (p : Fin 4) (e : Fin 144) :
    nest X b r (144 * p + e) (by omega)
      = if h : (e : ℕ) < 128 then X (ix4 b r ⟨2 * p + e / 64, by omega⟩ ⟨e % 64, by omega⟩) else 1 := by
  have hX : ∀ (h h' : Fin 8) (l l' : Fin 64), (h : ℕ) = h' → (l : ℕ) = l' → X (ix4 b r h l) = X (ix4 b r h' l') := by
    intro h h' l l' e1 e2
    rw [Fin.ext e1, Fin.ext e2]
  have hp := p.isLt
  have he := e.isLt
  unfold nest
  have hc : (p : ℕ) = 0 ∨ (p : ℕ) = 1 ∨ (p : ℕ) = 2 ∨ (p : ℕ) = 3 := by omega
  by_cases h : (e : ℕ) < 128
  · rw [dif_pos h]
    split_ifs
    all_goals first
      | (exfalso; omega)
      | (apply hX <;> simp only [] <;> rcases hc with hc | hc | hc | hc <;> omega)
  · rw [dif_neg h]
    split_ifs
    all_goals first
      | rfl
      | (exfalso; omega)

set_option maxHeartbeats 4000000 in
theorem V_v (c : Dev nD) (b a : Fin 8) (p : Fin 4) (e : Fin 144) (y : Fin 512) :
    (V m c main_v12 : S8x8x576x512.Idx → EReal) (ix4 b a ⟨144 * p + e, by omega⟩ y)
      = if h : (e : ℕ) < 128 then m ((c : Thread nD τ).loc main_arg2) (ix4 b ⟨512 * a + y, by omega⟩ ⟨2 * p + e / 64, by omega⟩ ⟨e % 64, by omega⟩)
        else (1 : EReal) := by
  unfold V
  simp only [List.flatten_cons, List.flatten_nil, List.cons_append, List.nil_append]
  after_reads_simp
  pointwise
  after_reads_simp
  pointwise
  exact (nest_eq (m ((c : Thread nD τ).loc main_arg2)) b ⟨a * 512 + y, by omega⟩ p e).trans (by
    simp only [Nat.mul_comm])
theorem V_b (c : Dev nD) (p : Fin 4) (j : Fin 768) (x : Fin 512) : (V m c main_v50 : S4x768x512.Idx → EReal) (ix3 p j x)
    = (if (x : ℕ) % 256 / 64 ≤ j / 64 ∧ (j : ℕ) / 64 ≤ x % 256 / 64 + 8 then
        m ((c : Thread nD τ).loc main_arg3) (ix2 ⟨2 * p + x / 256, by omega⟩ ⟨min 256 (640 + x % 256 - j), by omega⟩)
      else ⊥ : EReal) := by
  unfold V
  simp only [List.flatten_cons, List.flatten_nil, List.cons_append, List.nil_append]
  after_reads_simp
  simp -implicitDefEqProofs only [StableHlo.TRef.toBuf, StableHlo.TRef.ofBuf, cast_cast, cast_eq, id]
  pointwise
  refine Eq.trans (congrArg₂ (fun (w : BitVec 1) (y : EReal) => Scalar.select w y (Ideal.ofBits FTy.f32 4286578688#32))
    (near_div (x % 256) j (by omega) j.isLt)
    (gather_cols (H := 8) (N := 257) (R := 768) (C := 256) (by norm_num) _ (m (c, Proc.tc.devRef main_arg3)) _
      ⟨p * 2 + x / 256, by omega⟩ j ⟨x % 256, by omega⟩)) ?_
  have hb : Ideal.ofBits FTy.f32 4286578688#32 = (⊥ : EReal) := by simp [Ideal.ofBits, Ideal.ieee]
  rw [hb]
  split_ifs with h
  · show m (c, Proc.tc.devRef main_arg3) _ = m ((c : Thread nD τ).loc main_arg3) _
    refine congrArg (m ((c : Thread nD τ).loc main_arg3)) ?_
    refine congrArg₂ ix2 (Fin.ext (by show (p : ℕ) * 2 + x / 256 = 2 * p + x / 256; omega)) (Fin.ext ?_)
    simp only []
    pointwise
    exact place_word (x % 256) j _ (by omega) j.isLt (by unfold IntOp.addi; rw [BitVec.ofNat_add])
  · rfl

end Cert.KernelIdeal.Band

end
-- ==== Proof.Loads.lean ====
/- The chains of the banded-attention kernel, over the rectangles they load. -/
module

public import proofs.«01_k».proof.Proof.Block
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax Cert.Attend

variable {x0 : Vec Ideal S1x8x128x512 .f32} {x1 : Vec Ideal S1x4096x128 .bf16} {x2 : Vec Ideal S1x8x144x512 .bf16}
  {x3 : Vec Ideal S1x768x512 .f32}

theorem ld_key (x1 : Vec Ideal S1x4096x128 .bf16) (o : ℕ) (inb) (j : Fin 256) (l : Fin 128) (h : o + j < 4096) :
    (View.ld x1 (Rect.unit (s := S1x4096x128) ![0, o, 0] ![1, 256, 128] inb) (ix3 0 j l) : EReal) = x1 (ix3 0 ⟨o + j, h⟩ l) := by
  pointwise

theorem ld_query (w : Vec Ideal S1x128x8192 .bf16) (o : ℕ) (inb) (l : Fin 128) (x : Fin 512) (h : o + x < 8192) :
    (View.ld w (Rect.unit (s := S1x128x8192) ![0, 0, o] ![1, 128, 512] inb) (ix3 0 l x) : EReal) = w (ix3 0 l ⟨o + x, h⟩) := by
  pointwise

theorem ld_bias (x3 : Vec Ideal S1x768x512 .f32) (o : ℕ) (inb) (j : Fin 256) (x : Fin 512) (h : o + j < 768) :
    (View.ld x3 (Rect.unit (s := S1x768x512) ![0, o, 0] ![1, 256, 512] inb) (ix3 0 j x) : EReal) = x3 (ix3 0 ⟨o + j, h⟩ x) := by
  pointwise

theorem ld_value (x2 : Vec Ideal S1x8x144x512 .bf16) (a o : ℕ) (inb) (e : Fin 144) (j : Fin 256) (ha : a < 8) (h : o + j < 512) :
    (View.ld x2 (Rect.unit (s := S1x8x144x512) ![0, a, 0, o] ![1, 1, 144, 256] inb) (ix4 0 0 e j) : EReal)
      = x2 (ix4 0 ⟨a, ha⟩ e ⟨o + j, h⟩) := by
  pointwise

/-- The scored part `d` of chain `c`, from its loads. -/
theorem part_loads (c : Fin 16) (d : Fin 3) (h : 2 ≤ (c : ℕ) + d) {ok oq ob : ℕ} {inbk inbq inbb}
    (hk : ok = 256 * (c + d - 2)) (hq : oq = 512 * c) (hb : ob = 256 * d) (j : Fin 256) (x : Fin 512) :
    (scoreV (View.ld x1 (Rect.unit (s := S1x4096x128) ![0, ok, 0] ![1, 256, 128] inbk))
      (View.ld (fun y : S1x128x8192.Idx => q12F x0 (y 1) (y 2)) (Rect.unit (s := S1x128x8192) ![0, 0, oq] ![1, 128, 512] inbq))
      (View.ld x3 (Rect.unit (s := S1x768x512) ![0, ob, 0] ![1, 256, 512] inbb)) (ix2 j x) : EReal) = kscore x0 x1 x3 c d j x := by
  subst hk hq hb
  exact score_fact c d h (fun j l => ld_key x1 _ inbk j l (by omega)) (fun l x => ld_query _ _ inbq l x (by omega))
    (fun j x => ld_bias x3 _ inbb j x (by omega)) j x

/-- The value part `d` of chain `c`, from its load. -/
theorem value_loads (c : Fin 16) (d : Fin 3) (h : 2 ≤ (c : ℕ) + d) {a o : ℕ} {inb} (ha : a = (c + d - 2) / 2) (ho : o = 256 * ((c + d - 2) % 2))
    (e : Fin 144) (j : Fin 256) :
    (View.ld x2 (Rect.unit (s := S1x8x144x512) ![0, a, 0, o] ![1, 1, 144, 256] inb) (ix4 0 0 e j) : EReal) = kvalue x2 c d e j := by
  subst ha ho
  rw [ld_value x2 _ _ inb e j (by omega) (by omega), kvalue]
  congr 2 <;> apply Fin.ext <;> simp only [] <;> omega

/-- Chain `c`, all three parts inside the sequence, from its loads. -/
theorem full_chain (c : Fin 16) (h : 2 ≤ (c : ℕ)) {k2 k1 k0 oq b2 b1 b0 a2 a1 a0 o2 o1 o0 : ℕ} {i1 i2 i3 i4 i5 i6 i7 i8 i9 i10 i11 i12}
    (hk : k2 = 256 * (c + 2 - 2) ∧ k1 = 256 * (c + 1 - 2) ∧ k0 = 256 * (c + 0 - 2) ∧ oq = 512 * c ∧ b2 = 512 ∧ b1 = 256 ∧ b0 = 0)
    (hv : a2 = (c + 2 - 2) / 2 ∧ a1 = (c + 1 - 2) / 2 ∧ a0 = (c + 0 - 2) / 2
      ∧ o2 = 256 * ((c + 2 - 2) % 2) ∧ o1 = 256 * ((c + 1 - 2) % 2) ∧ o0 = 256 * ((c + 0 - 2) % 2)) :
    Chain x0 x1 x2 x3 c
      (scoreV (View.ld x1 (Rect.unit (s := S1x4096x128) ![0, k2, 0] ![1, 256, 128] i1))
        (View.ld (fun y : S1x128x8192.Idx => q12F x0 (y 1) (y 2)) (Rect.unit (s := S1x128x8192) ![0, 0, oq] ![1, 128, 512] i2))
        (View.ld x3 (Rect.unit (s := S1x768x512) ![0, b2, 0] ![1, 256, 512] i3)))
      (scoreV (View.ld x1 (Rect.unit (s := S1x4096x128) ![0, k1, 0] ![1, 256, 128] i4))
        (View.ld (fun y : S1x128x8192.Idx => q12F x0 (y 1) (y 2)) (Rect.unit (s := S1x128x8192) ![0, 0, oq] ![1, 128, 512] i5))
        (View.ld x3 (Rect.unit (s := S1x768x512) ![0, b1, 0] ![1, 256, 512] i6)))
      (scoreV (View.ld x1 (Rect.unit (s := S1x4096x128) ![0, k0, 0] ![1, 256, 128] i7))
        (View.ld (fun y : S1x128x8192.Idx => q12F x0 (y 1) (y 2)) (Rect.unit (s := S1x128x8192) ![0, 0, oq] ![1, 128, 512] i8))
        (View.ld x3 (Rect.unit (s := S1x768x512) ![0, b0, 0] ![1, 256, 512] i9)))
      (View.ld x2 (Rect.unit (s := S1x8x144x512) ![0, a2, 0, o2] ![1, 1, 144, 256] i10))
      (View.ld x2 (Rect.unit (s := S1x8x144x512) ![0, a1, 0, o1] ![1, 1, 144, 256] i11))
      (View.ld x2 (Rect.unit (s := S1x8x144x512) ![0, a0, 0, o0] ![1, 1, 144, 256] i12)) := by
  obtain ⟨e1, e2, e3, e4, e5, e6, e7⟩ := hk
  obtain ⟨f1, f2, f3, f4, f5, f6⟩ := hv
  exact ⟨part_loads c 2 (by simp) e1 e4 e5, part_loads c 1 (by simp; omega) e2 e4 e6, part_loads c 0 (by simpa using h) e3 e4 e7,
    value_loads c 2 (by simp) f1 f4, fun h' => value_loads c 1 (by simp; omega) f2 f5, fun h' => value_loads c 0 (by simpa using h) f3 f6⟩

end Cert.KernelIdeal.Band
-- ==== Proof.Final.lean ====
/- The banded-attention kernel's result array is band attention of its arguments. -/
module

public import proofs.«01_k».proof.Proof.Gen.KernelIdeal.Value
public import Idealize.ShloMosaic.Lib.Pipeline.ValueKit
public import Idealize.ShloMosaic.Lib.Pointwise
public import proofs.«01_k».proof.Proof.Loads
public import Idealize.ShloMosaic.Lib.Pipeline.ReadBack

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Softmax Cert.Attend

def qa (c : Dev nD) (b : Fin 8) (g : Fin 4096) (h : Fin 8) (l : Fin 64) : EReal := m ((c : Thread nD τ).loc main_arg0) (ix4 b g h l)
def ka (c : Dev nD) (b : Fin 8) (g : Fin 4096) (h : Fin 8) (l : Fin 64) : EReal := m ((c : Thread nD τ).loc main_arg1) (ix4 b g h l)
def va (c : Dev nD) (b : Fin 8) (g : Fin 4096) (h : Fin 8) (l : Fin 64) : EReal := m ((c : Thread nD τ).loc main_arg2) (ix4 b g h l)
def ta (c : Dev nD) (h : Fin 8) (r : Fin 257) : EReal := m ((c : Thread nD τ).loc main_arg3) (ix2 h r)

def OUT (c : Dev nD) : Buf (Elt Ideal) ((c : Thread nD τ).loc main_v51) := fun y =>
  attend (qa m c) (ka m c) (va m c) (ta m c) (y 0) ⟨((y 2).val : ℕ) / 64, Nat.div_lt_of_lt_mul (y 2).isLt⟩ (y 1) ⟨((y 2).val : ℕ) % 64, Nat.mod_lt _ (by norm_num)⟩

theorem idx_val : ∀ t : Fin cfg0.N, win0_0.index t = ![t.val % 8, 0, t.val / 8, 0] ∧ win0_1.index t = ![t.val % 8, 0, t.val / 8]
    ∧ win0_2.index t = ![t.val % 8, 0, t.val / 8, 0] ∧ win0_3.index t = ![t.val / 8, 0, 0] ∧ win0_4.index t = ![t.val % 8, 0, t.val / 8] :=
  (by decide +kernel : ∀ t : Fin grid0.N, _)

theorem out_at (c : Dev nD) (t : Fin cfg0.grid.N) (y : ((cfg0.win 4).xblock (cfg0.grid.coords t)).Idx) (o : ℕ) (r : Fin 512) (e : Fin 128)
    (h1 : ((y 1).val : ℕ) = o + r) (h2 : ((y 2).val : ℕ) = e) {b : Fin 8} {hh : Fin 8} {g : Fin 4096} {l : Fin 64}
    (hb : b.val = t.val % 8) (hp : hh.val = 2 * (t.val / 8) + e / 64) (hg : g.val = o + r) (hl : l.val = e % 64) :
    attend (qa m c) (ka m c) (va m c) (ta m c) b hh g l = OUT m c (((View.whole main_v51).slice (win0_4.rect t)).emb y) := by
  unfold OUT
  congr 1
  · apply Fin.ext; rw [hb]; blk_simp [idx_val t]
  · apply Fin.ext; blk_simp [idx_val t]
    change hh.val = (t.val / 8 * 128 + (y 2).val) / 64
    omega
  · apply Fin.ext; blk_simp [idx_val t]; omega
  · apply Fin.ext; blk_simp [idx_val t]
    change l.val = (t.val / 8 * 128 + (y 2).val) % 64
    omega

/-- A score block before the sequence's beginning. -/
def botV : FVec Ideal S256x512 .f32 := broadcast S256x512 (Named.named κ "mask" 0xF149F2CA#32)

theorem bot_fact {x0 : Vec Ideal S1x8x128x512 .f32} {x1 : Vec Ideal S1x4096x128 .bf16} {x3 : Vec Ideal S1x768x512 .f32} (c : Fin 16) (d : Fin 3) (h : ¬ 2 ≤ (c : ℕ) + d) (j : Fin 256) (x : Fin 512) :
    (botV (ix2 j x) : EReal) = kscore x0 x1 x3 c d j x := by
  rw [kscore, if_neg h]
  pointwise [botV, named_mask]

theorem pay101_zero (s : FVec Ideal S256x512 .f32) (b : Vec Ideal S1x256x512 .f32) : k0_pay101 (0#32) s b = botV := rfl

theorem pay49_eq (a : Vec Ideal S1x256x128 .bf16) (q : Vec Ideal S1x128x512 .bf16) (b : Vec Ideal S1x256x512 .f32) :
    k0_pay49 a q b = scoreV a q b := shapeCast_self _ _

theorem pay50_eq (a : Vec Ideal S1x256x128 .bf16) (q : Vec Ideal S1x128x512 .bf16) (b : Vec Ideal S1x256x512 .f32) :
    k0_pay50 a q b = scoreV a q b := pay49_eq a q b

theorem pay158_zero (a : Vec Ideal S1x256x128 .bf16) (q : Vec Ideal S1x128x512 .bf16) (b : Vec Ideal S1x256x512 .f32) :
    k0_pay158 (0#32) a q b = botV := rfl

theorem pay161_zero (a : Vec Ideal S1x256x128 .bf16) (q : Vec Ideal S1x128x512 .bf16) (b : Vec Ideal S1x256x512 .f32) :
    k0_pay161 (0#32) a q b = botV := rfl

set_option maxHeartbeats 4000000 in
theorem final (c : Dev nD) (hq : ∀ b g h l, IsReal (qa m c b g h l)) (hk : ∀ b g h l, IsReal (ka m c b g h l))
    (ht : ∀ h r, IsReal (ta m c h r))
    (hR : ∀ t : Fin cfg0.grid.N, Reads (qa m c) (ka m c) (va m c) (ta m c) ⟨t.val % 8, Nat.mod_lt _ (by norm_num)⟩
      ⟨t.val / 8, Nat.div_lt_of_lt_mul t.isLt⟩ (iblk m c 0 t) (iblk m c 1 t) (iblk m c 2 t) (iblk m c 3 t)) : (dats m 0 c).arrAt 4 (cfgs 0).N = OUT m c := by
  refine (dats m 0 c).arrAt_eq_of_covers 4 _ (by decide +kernel) fun t _ y => ?_
  blk_simp
  rw [after0_4]
  unfold Gen.outsAt0
  frame_out
  rw [k0_pay48_eq (iblk m c 0 t) _ _ _ _ _ _ _ _ (by intro l i; pointwise) (by intro l i; pointwise) (by intro l i; pointwise)
    (by intro l i; pointwise) (by intro l i; pointwise) (by intro l i; pointwise) (by intro l i; pointwise) (by intro l i; pointwise)]
  simp (disch := decide) only [↓View.readCov_fill]
  simp only [pay101_zero, pay158_zero, pay161_zero, pay49_eq, pay50_eq]
  canon_tiles x h
  case piece7 =>
    obtain ⟨W, hW⟩ : ∃ W, W = botV := ⟨_, rfl⟩
    simp only [← hW]
    refine (congrFun (show _ = outV (chainV (scoreV _ _ _) W W _ _ _) (chainV (scoreV _ _ _) (scoreV _ _ _) W _ _ _) from rfl) x).trans ?_
    subst hW
    idx_vars x
    have hx0 : x0 = 0 := Subsingleton.elim _ _
    subst hx0
    exact (out_point (hR t) hq hk ht 0 1 rfl
      ⟨part_loads 0 2 (by decide) (by decide) (by decide) (by decide), bot_fact 0 1 (by decide), bot_fact 0 0 (by decide),
        value_loads 0 2 (by decide) (by decide) (by decide), fun h => absurd h (by decide), fun h => absurd h (by decide)⟩
      ⟨part_loads 1 2 (by decide) (by decide) (by decide) (by decide), part_loads 1 1 (by decide) (by decide) (by decide) (by decide), bot_fact 1 0 (by decide),
        value_loads 1 2 (by decide) (by decide) (by decide), fun _ => value_loads 1 1 (by decide) (by decide) (by decide), fun h => absurd h (by decide)⟩
      x1 x2).trans (out_at m c t y 0 x1 x2 (h1.trans (Nat.zero_add _).symm) h2 rfl rfl rfl rfl)
  all_goals
    refine (congrFun (show _ = outV (chainV (scoreV _ _ _) (scoreV _ _ _) (scoreV _ _ _) _ _ _)
      (chainV (scoreV _ _ _) (scoreV _ _ _) (scoreV _ _ _) _ _ _) from rfl) x).trans ?_
    idx_vars x
    have hx0 : x0 = 0 := Subsingleton.elim _ _
    subst hx0
  · exact (out_point (hR t) hq hk ht 14 15 rfl (full_chain 14 (by decide) (by decide) (by decide))
      (full_chain 15 (by decide) (by decide) (by decide)) x1 x2).trans (out_at m c t y _ x1 x2 h1 h2 rfl rfl rfl rfl)
  · exact (out_point (hR t) hq hk ht 12 13 rfl (full_chain 12 (by decide) (by decide) (by decide))
      (full_chain 13 (by decide) (by decide) (by decide)) x1 x2).trans (out_at m c t y _ x1 x2 h1 h2 rfl rfl rfl rfl)
  · exact (out_point (hR t) hq hk ht 10 11 rfl (full_chain 10 (by decide) (by decide) (by decide))
      (full_chain 11 (by decide) (by decide) (by decide)) x1 x2).trans (out_at m c t y _ x1 x2 h1 h2 rfl rfl rfl rfl)
  · exact (out_point (hR t) hq hk ht 8 9 rfl (full_chain 8 (by decide) (by decide) (by decide))
      (full_chain 9 (by decide) (by decide) (by decide)) x1 x2).trans (out_at m c t y _ x1 x2 h1 h2 rfl rfl rfl rfl)
  · exact (out_point (hR t) hq hk ht 6 7 rfl (full_chain 6 (by decide) (by decide) (by decide))
      (full_chain 7 (by decide) (by decide) (by decide)) x1 x2).trans (out_at m c t y _ x1 x2 h1 h2 rfl rfl rfl rfl)
  · exact (out_point (hR t) hq hk ht 4 5 rfl (full_chain 4 (by decide) (by decide) (by decide))
      (full_chain 5 (by decide) (by decide) (by decide)) x1 x2).trans (out_at m c t y _ x1 x2 h1 h2 rfl rfl rfl rfl)
  · exact (out_point (hR t) hq hk ht 2 3 rfl (full_chain 2 (by decide) (by decide) (by decide))
      (full_chain 3 (by decide) (by decide) (by decide)) x1 x2).trans (out_at m c t y _ x1 x2 h1 h2 rfl rfl rfl rfl)

end Cert.KernelIdeal.Band

end
-- ==== Proof.Entry.lean ====
/- Each grid point's blocks are the arguments' entries. -/
module

public import proofs.«01_k».proof.Proof.Reads
public import proofs.«01_k».proof.Proof.Final

@[expose] public section

set_option maxRecDepth 16384

noncomputable section

namespace Cert.KernelIdeal.Band

open Cert.KernelIdeal Cert.KernelIdeal.Gen Idealize.ShloMosaic Idealize.ShloMosaic.TcCoe Idealize.SL.Sem
open Cert.Softmax Cert.Attend Cert.Words

variable (m : (ℓ : Loc nD τ sig) → Buf (Elt Ideal) ℓ)

theorem read_q (c : Dev nD) (t : Fin cfg0.grid.N) (a : Fin 8) (l : Fin 128) (y : Fin 512) (h0 : (t : ℕ) % 8 < 8) (h1 : 128 * ((t : ℕ) / 8) + l < 512) :
    (iblk m c 0 t : S1x8x128x512.Idx → EReal) (ix4 0 a l y)
      = (V m c main_v9 : S8x8x512x512.Idx → EReal) (ix4 ⟨t.val % 8, h0⟩ a ⟨128 * (t.val / 8) + l, h1⟩ y) := by
  show V m c main_v9 _ = V m c main_v9 _
  refine congrArg (V m c main_v9) ?_
  funext z
  apply Fin.ext
  fin_cases z <;> blk_simp [iblk, idx_val t]
  · rfl
  · rfl
  · show t.val / 8 * 128 + (l : ℕ) = 128 * (t.val / 8) + l
    omega
  · rfl

theorem read_k (c : Dev nD) (t : Fin cfg0.grid.N) (g : Fin 4096) (l : Fin 128) (h0 : (t : ℕ) % 8 < 8) (h1 : 128 * ((t : ℕ) / 8) + l < 512) :
    (iblk m c 1 t : S1x4096x128.Idx → EReal) (ix3 0 g l)
      = (V m c main_v11 : S8x4096x512.Idx → EReal) (ix3 ⟨t.val % 8, h0⟩ g ⟨128 * (t.val / 8) + l, h1⟩) := by
  show V m c main_v11 _ = V m c main_v11 _
  refine congrArg (V m c main_v11) ?_
  funext z
  apply Fin.ext
  fin_cases z <;> blk_simp [iblk, idx_val t]
  · rfl
  · rfl
  · show t.val / 8 * 128 + (l : ℕ) = 128 * (t.val / 8) + l
    omega

theorem read_v (c : Dev nD) (t : Fin cfg0.grid.N) (a : Fin 8) (e : Fin 144) (y : Fin 512) (h0 : (t : ℕ) % 8 < 8) (h1 : 144 * ((t : ℕ) / 8) + e < 576) :
    (iblk m c 2 t : S1x8x144x512.Idx → EReal) (ix4 0 a e y)
      = (V m c main_v12 : S8x8x576x512.Idx → EReal) (ix4 ⟨t.val % 8, h0⟩ a ⟨144 * (t.val / 8) + e, h1⟩ y) := by
  show V m c main_v12 _ = V m c main_v12 _
  refine congrArg (V m c main_v12) ?_
  funext z
  apply Fin.ext
  fin_cases z <;> blk_simp [iblk, idx_val t]
  · rfl
  · rfl
  · show t.val / 8 * 144 + (e : ℕ) = 144 * (t.val / 8) + e
    omega
  · rfl

theorem read_b (c : Dev nD) (t : Fin cfg0.grid.N) (j : Fin 768) (x : Fin 512) (h0 : (t : ℕ) / 8 < 4) :
    (iblk m c 3 t : S1x768x512.Idx → EReal) (ix3 0 j x)
      = (V m c main_v50 : S4x768x512.Idx → EReal) (ix3 ⟨t.val / 8, h0⟩ j x) := by
  show V m c main_v50 _ = V m c main_v50 _
  refine congrArg (V m c main_v50) ?_
  funext z
  apply Fin.ext
  fin_cases z <;> blk_simp [iblk, idx_val t]
  · rfl
  · rfl
  · rfl

theorem reads (c : Dev nD) (t : Fin cfg0.grid.N) : Reads (qa m c) (ka m c) (va m c) (ta m c) ⟨t.val % 8, Nat.mod_lt _ (by norm_num)⟩
    ⟨t.val / 8, Nat.div_lt_of_lt_mul t.isLt⟩ (iblk m c 0 t) (iblk m c 1 t) (iblk m c 2 t) (iblk m c 3 t) := by
  have ht : (t : ℕ) < 32 := t.isLt
  have hv : ∀ (a : Fin 8) (e : Fin 144) (y : Fin 512), (iblk m c 2 t : S1x8x144x512.Idx → EReal) (ix4 0 a e y)
      = if h : (e : ℕ) < 128 then va m c ⟨t.val % 8, by omega⟩ ⟨512 * a + y, by omega⟩ ⟨2 * (t.val / 8) + e / 64, by omega⟩ ⟨e % 64, by omega⟩
        else (1 : EReal) := by
    intro a e y
    exact (read_v m c t a e y (by omega) (by omega)).trans (V_v m c ⟨t.val % 8, by omega⟩ a ⟨t.val / 8, by omega⟩ e y)
  refine ⟨?_, ?_, ?_, ?_, ?_⟩
  · intro a l y
    refine (read_q m c t a l y (by omega) (by omega)).trans
      ((V_q m c ⟨t.val % 8, by omega⟩ a ⟨128 * (t.val / 8) + l, by omega⟩ y).trans ?_)
    refine congrArg (m ((c : Thread nD τ).loc main_arg0)) ?_
    congr 1 <;> apply Fin.ext <;> simp only [] <;> omega
  · intro g l
    refine (read_k m c t g l (by omega) (by omega)).trans
      ((V_k m c ⟨t.val % 8, by omega⟩ g ⟨128 * (t.val / 8) + l, by omega⟩).trans ?_)
    refine congrArg (m ((c : Thread nD τ).loc main_arg1)) ?_
    congr 1 <;> apply Fin.ext <;> simp only [] <;> omega
  · intro a e y he
    rw [hv a e y, dif_pos he]
  · intro a y
    rw [hv a 128 y, dif_neg (by decide)]
  · intro j x
    exact (read_b m c t j x (by omega)).trans (V_b m c ⟨t.val / 8, by omega⟩ j x)

end Cert.KernelIdeal.Band

end
-- ==== Proof.RefTerm.lean ====
/- The reference's term, by its parts. -/
module

public import proofs.«01_k».proof.Proof.Gen.ReferenceIdeal.Run
public import Idealize.ShloMosaic.Lib.Pointwise
public import proofs.«01_k».proof.Proof.Attend
public import proofs.«01_k».proof.Proof.Words

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.Softmax Cert.Attend Cert.Words
open Facts₀ Facts

/-- The band of blocks before each block, zeros before the start. -/
def band (X : FVec Ideal S8x4096x8x64 .f32) : FVec Ideal S8x64x576x8x64 .f32 :=
  (shapeCast _ (Host.gather gather_S8x72x64x8x64_S64x9x1_S8x64x9x64x8x64_0345_1_n_n_1_2_8164864 (pad S8x72x64x8x64 ![0, 8, 0, 0, 0] ![0, 0, 0, 0, 0] ![0, 0, 0, 0, 0] (shapeCast _ X shapeCasts_S8x4096x8x64_S8x64x64x8x64) (sitofp .f32 (constantI S_ 32 0#32)) pads_S8x64x64x8x64_S8x72x64x8x64_000_800_000_000_000 h_S_) (broadcastInDim S64x9x1 ![0, 1] bcast_S64x9_S64x9x1_0_1 (select (cmpi .slt (addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0)))) (broadcastInDim S64x9 ![] bcast_S_S64x9 (constantI S_ 32 0#32))) (addi (addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0)))) (broadcastInDim S64x9 ![] bcast_S_S64x9 (constantI S_ 32 72#32))) (addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0))))))) shapeCasts_S8x64x9x64x8x64_S8x64x576x8x64)

/-- The bias of each distance. -/
def bias (tb : FVec Ideal S8x257 .f32) : FVec Ideal S8x64x576 .f32 :=
  (Host.gather gather_S8x257_S64x576x1_S8x64x576_0_1_n_n_1_2_81 tb (broadcastInDim S64x576x1 ![0, 1] bcast_S64x576_S64x576x1_0_1 (select (cmpi .slt (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (iotaInDim S64 32 0) (broadcastInDim S64 ![] bcast_S_S64 (constantI S_ 32 512#32))))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 0#32))) (addi (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (iotaInDim S64 32 0) (broadcastInDim S64 ![] bcast_S_S64 (constantI S_ 32 512#32))))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 257#32))) (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (iotaInDim S64 32 0) (broadcastInDim S64 ![] bcast_S_S64 (constantI S_ 32 512#32))))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))))))

/-- The masked scores. -/
def scores (q k : FVec Ideal S8x4096x8x64 .f32) (tb : FVec Ideal S8x257 .f32) : FVec Ideal S8x64x8x64x576 .f32 :=
  (select (broadcastInDim S8x64x8x64x576 ![0, 1, 2, 3, 4] bcast_S1x64x1x1x576_S8x64x8x64x576_0_1_2_3_4 (broadcastInDim S1x64x1x1x576 ![1, 4] bcast_S64x576_S1x64x1x1x576_1_4 (shapeCast _ (broadcastInDim S64x9x64 ![0, 1] bcast_S64x9_S64x9x64_0_1 (cmpi .sge (addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0)))) (broadcastInDim S64x9 ![] bcast_S_S64x9 (constantI S_ 32 8#32)))) shapeCasts_S64x9x64_S64x576))) (addf (mulf (Host.dotGeneral dot_S8x64x64x8x64_S8x64x576x8x64_S8x64x8x64x576_4_4_2_2_013_013 none (shapeCast _ q shapeCasts_S8x4096x8x64_S8x64x64x8x64) (band k)) (broadcastInDim S8x64x8x64x576 ![] bcast_S_S8x64x8x64x576 (constant S_ .f32 0x3E000000#32))) (broadcastInDim S8x64x8x64x576 ![0, 1, 2, 3, 4] bcast_S1x1x8x64x576_S8x64x8x64x576_0_1_2_3_4 (broadcastInDim S1x1x8x64x576 ![2, 3, 4] bcast_S8x64x576_S1x1x8x64x576_2_3_4 (bias tb)))) (broadcastInDim S8x64x8x64x576 ![] bcast_S_S8x64x8x64x576 (id (constant S_ .f32 0xFF800000#32))))

/-- Exponentials of scores taken from given reference points. -/
def shifted (s : FVec Ideal S8x64x8x64x576 .f32) (R : FVec Ideal S8x64x8x64 .f32) : FVec Ideal S8x64x8x64x576 .f32 :=
  (Host.exp (subf s (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 (maximumf (broadcastInDim S8x64x8x64 ![] bcast_S_S8x64x8x64 (constant S_ .f32 0xFF800000#32)) R)))))

/-- The weights before division. -/
def weights (s : FVec Ideal S8x64x8x64x576 .f32) : FVec Ideal S8x64x8x64x576 .f32 :=
  shifted s (Host.reduce FloatOps.maximumf s (constant S_ .f32 0xFF800000#32) reducesTo_S8x64x8x64x576_S8x64x8x64_d4 h_S_)

/-- The weighted values. -/
def result (e : FVec Ideal S8x64x8x64x576 .f32) (v : FVec Ideal S8x4096x8x64 .f32) : FVec Ideal S8x4096x512 .bf16 :=
  truncf .bf16 (shapeCast _ (transpose S8x64x64x8x64 [0, 1, 4, 2, 3] (Host.dotGeneral dot_S8x64x576x8x64_S8x64x8x64x576_S8x64x8x64x64_2_4_4_3_013_012 none (band v) (Host.divf e (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 (Host.reduceAdd e (constant S_ .f32 0x00000000#32) reducesTo_S8x64x8x64x576_S8x64x8x64_d4 h_S_))))) transposes_S8x64x8x64x64_S8x64x64x8x64_0_1_4_2_3) shapeCasts_S8x64x64x8x64_S8x4096x512) bitsLt_bf16_f32

theorem res_eq (m : (ℓ : Loc nD τ sig) → Buf (Elt Ideal) ℓ) (c : Dev nD) : (res_main_v73 m c : FVec Ideal S8x4096x512 .bf16)
    = result (weights (scores (m ((c.tc : Thread nD τ).loc main_arg0)) (m ((c.tc : Thread nD τ).loc main_arg1)) (m ((c.tc : Thread nD τ).loc main_arg3))))
      (m ((c.tc : Thread nD τ).loc main_arg2)) := by
  unfold res_main_v73
  rfl

end Cert.ReferenceIdeal.Band

end
-- ==== Proof.Reference.lean ====
/- The reference read at an element: band attention. -/
module

public import proofs.«01_k».proof.Proof.RefTerm
public import Idealize.ShloMosaic.Lib.Pointwise
public import proofs.«01_k».proof.Proof.Attend
public import proofs.«01_k».proof.Proof.Words

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.Softmax Cert.Attend Cert.Words
open Facts₀ Facts

theorem place_plain (i : Fin 64) (n : Fin 9) :
    (Scalar.select (IntOp.cmpi .slt (IntOp.addi (BitVec.ofNat 32 i) (BitVec.ofNat 32 n)) 0#32)
      (IntOp.addi (IntOp.addi (BitVec.ofNat 32 i) (BitVec.ofNat 32 n)) 72#32)
      (IntOp.addi (BitVec.ofNat 32 i) (BitVec.ofNat 32 n))).toInt.toNat = i + n := by
  revert i n; decide +kernel

theorem band_at (X : FVec Ideal S8x4096x8x64 .f32) (b : Fin 8) (i : Fin 64) (kk : Fin 576) (h : Fin 8) (l : Fin 64) :
    band X (ix5 b i kk h l)
      = if hv : 512 ≤ 64 * (i : ℕ) + kk then X (ix4 b ⟨64 * i + kk - 512, by omega⟩ h l) else (0 : EReal) := by
  unfold band
  pointwise
  refine (gather_slices (A := 8) (N := 72) (P := 64) (Q := 8) (E := 64) (R := 64) (C := 9) (by norm_num) _ _ _
    b i ⟨kk / 64, by omega⟩ ⟨kk % 64, by omega⟩ h l).trans ?_
  have e : ∀ (n : ℕ) (hn : n < 72) (n' : ℕ) (hn' : n' < 72), n = n' → ∀ Y : FVec Ideal S8x72x64x8x64 .f32,
      Y (ix5 b ⟨n, hn⟩ ⟨kk % 64, by omega⟩ h l) = Y (ix5 b ⟨n', hn'⟩ ⟨kk % 64, by omega⟩ h l) := by
    intro n hn n' hn' e Y; subst e; rfl
  refine (e _ _ (i + kk / 64) (by omega) ?_ _).trans ?_
  · pointwise
    have := place_plain i ⟨kk / 64, by omega⟩
    simp only [] at this
    rw [this]
    omega
  · pointwise
    by_cases hv : 512 ≤ 64 * (i : ℕ) + kk
    · rw [dif_pos hv, dif_pos (by omega)]
      refine congrArg X (congrArg (fun z => ix4 b z h l) (Fin.ext ?_))
      show ((i : ℕ) + kk / 64 - 8) * 64 + (kk : ℕ) % 64 = 64 * i + kk - 512
      omega
    · rw [dif_neg hv, dif_neg (by omega)]
      simp [FloatOps.sitofp]

theorem bias_at (tb : FVec Ideal S8x257 .f32) (h : Fin 8) (t : Fin 64) (kk : Fin 576) :
    bias tb (ix3 h t kk) = tb (ix2 h ⟨min 256 (640 + t - kk), by omega⟩) := by
  unfold bias
  refine (gather_cols (H := 8) (N := 257) (R := 64) (C := 576) (by norm_num) _ tb _ h t kk).trans ?_
  refine congrArg tb (congrArg (ix2 h) (Fin.ext ?_))
  simp only []
  pointwise
  exact place_word t kk _ (by omega) (by omega) (by unfold IntOp.addi; rw [Nat.add_comm, BitVec.ofNat_add])

theorem valid_word (i : Fin 64) (n : Fin 9) :
    IntOp.cmpi CmpIPredicate.sge (IntOp.addi (BitVec.ofNat 32 i) (BitVec.ofNat 32 n)) 8#32 = if 8 ≤ (i : ℕ) + n then 1#1 else 0#1 := by
  revert i n; decide +kernel

theorem scores_at (q k : FVec Ideal S8x4096x8x64 .f32) (tb : FVec Ideal S8x257 .f32) (b : Fin 8) (i : Fin 64) (h : Fin 8) (t : Fin 64) (kk : Fin 576) :
    scores q k tb (ix5 b i h t kk)
      = score (fun b g h l => q (ix4 b g h l)) (fun b g h l => k (ix4 b g h l)) (fun h r => tb (ix2 h r)) b h ⟨64 * i + t, by omega⟩ kk := by
  unfold scores
  pointwise
  rw [show IntOp.cmpi CmpIPredicate.sge (IntOp.addi (BitVec.ofNat 32 i) (BitVec.ofNat 32 (kk / 64))) 8#32 = if 8 ≤ (i : ℕ) + kk / 64 then 1#1 else 0#1
    from valid_word i ⟨kk / 64, by omega⟩]
  unfold score dotq
  simp only []
  by_cases hv : 512 ≤ 64 * (i : ℕ) + kk
  · rw [if_pos (by omega), dif_pos (by omega)]
    refine Eq.trans (b := (∑ x, q (ix4 b ⟨i * 64 + t, by omega⟩ h x) * band k (ix5 b i kk h x)) * Ideal.ofBits FTy.f32 1040187392#32 +
        bias tb (ix3 h t kk)) rfl ?_
    refine congrArg₂ (· + ·) (congrArg₂ (· * ·) (Finset.sum_congr rfl fun x _ => ?_) ?_) ((bias_at tb h t kk).trans ?_)
    · rw [band_at, dif_pos hv]
      refine congrArg₂ (· * ·) (congrArg q (congrArg (fun z => ix4 b z h x) (Fin.ext ?_))) (congrArg k (congrArg (fun z => ix4 b z h x) (Fin.ext ?_)))
      · show (i : ℕ) * 64 + t = 64 * i + t; omega
      · show 64 * (i : ℕ) + kk - 512 = 64 * ((64 * i + t) / 64) + kk - 512; omega
    · simp [Ideal.ofBits, Ideal.ieee]
      rw [← EReal.coe_mul]
      norm_num
    · refine congrArg tb (congrArg (ix2 h) (Fin.ext ?_))
      show min 256 (640 + (t : ℕ) - (kk : ℕ)) = min 256 (640 + (64 * (i : ℕ) + t) % 64 - (kk : ℕ))
      omega
  · rw [if_neg (by omega), dif_neg (by omega)]
    refine Eq.trans (b := Ideal.ofBits FTy.f32 4286578688#32) rfl ?_
    simp [Ideal.ofBits, Ideal.ieee]

theorem max_at (s : FVec Ideal S8x64x8x64x576 .f32) (b : Fin 8) (i : Fin 64) (h : Fin 8) (t : Fin 64) :
    Host.reduce FloatOps.maximumf s (constant S_ .f32 0xFF800000#32) reducesTo_S8x64x8x64x576_S8x64x8x64_d4 h_S_ (ix4 b i h t)
      = Finset.univ.fold max (⊥ : EReal) fun kk : Fin 576 => s (ix5 b i h t kk) := by
  pointwise
  rw [show Ideal.ofBits FTy.f32 4286578688#32 = (⊥ : EReal) by simp [Ideal.ofBits, Ideal.ieee]]

theorem shifted_at (s : FVec Ideal S8x64x8x64x576 .f32) (R : FVec Ideal S8x64x8x64 .f32) (b : Fin 8) (i : Fin 64) (h : Fin 8) (t : Fin 64)
    (kk : Fin 576) : shifted s R (ix5 b i h t kk) = Ideal.exp (s (ix5 b i h t kk) - R (ix4 b i h t)) := by
  unfold shifted
  pointwise
  rw [show Ideal.ofBits FTy.f32 4286578688#32 = (⊥ : EReal) by simp [Ideal.ofBits, Ideal.ieee]]
  simp

theorem weights_at (s : FVec Ideal S8x64x8x64x576 .f32) (b : Fin 8) (i : Fin 64) (h : Fin 8) (t : Fin 64) (kk : Fin 576) :
    weights s (ix5 b i h t kk)
      = Ideal.exp (s (ix5 b i h t kk) - Finset.univ.fold max (⊥ : EReal) fun kk : Fin 576 => s (ix5 b i h t kk)) :=
  (shifted_at s _ b i h t kk).trans (congrArg (fun z => Ideal.exp (s (ix5 b i h t kk) - z)) (max_at s b i h t))

theorem result_at (e : FVec Ideal S8x64x8x64x576 .f32) (v : FVec Ideal S8x4096x8x64 .f32) (b : Fin 8) (g : Fin 4096) (w : Fin 512) :
    result e v (ix3 b g w) = ∑ x : Fin 576, band v (ix5 b ⟨g / 64, by omega⟩ x ⟨w / 64, by omega⟩ ⟨w % 64, by omega⟩) *
        Ideal.div (e (ix5 b ⟨g / 64, by omega⟩ ⟨w / 64, by omega⟩ ⟨g % 64, by omega⟩ x))
          (∑ x' : Fin 576, e (ix5 b ⟨g / 64, by omega⟩ ⟨w / 64, by omega⟩ ⟨g % 64, by omega⟩ x')) := by
  unfold result
  pointwise

theorem attend_at (q k v : FVec Ideal S8x4096x8x64 .f32) (tb : FVec Ideal S8x257 .f32) (b : Fin 8) (g : Fin 4096) (w : Fin 512) :
    result (weights (scores q k tb)) v (ix3 b g w)
      = attend (fun b g h l => q (ix4 b g h l)) (fun b g h l => k (ix4 b g h l)) (fun b g h l => v (ix4 b g h l)) (fun h r => tb (ix2 h r))
          b ⟨w / 64, by omega⟩ g ⟨w % 64, by omega⟩ := by
  have hg : (⟨64 * (g / 64) + g % 64, by omega⟩ : Fin 4096) = g := Fin.ext (by show 64 * ((g : ℕ) / 64) + (g : ℕ) % 64 = g; omega)
  have hs : ∀ x : Fin 576, scores q k tb (ix5 b ⟨g / 64, by omega⟩ ⟨w / 64, by omega⟩ ⟨g % 64, by omega⟩ x)
      = score (fun b g h l => q (ix4 b g h l)) (fun b g h l => k (ix4 b g h l)) (fun h r => tb (ix2 h r)) b ⟨w / 64, by omega⟩ g x := by
    intro x
    rw [scores_at]
    simp only []
    rw [hg]
  have hw : ∀ x : Fin 576, weights (scores q k tb) (ix5 b ⟨g / 64, by omega⟩ ⟨w / 64, by omega⟩ ⟨g % 64, by omega⟩ x)
      = Ideal.exp (score (fun b g h l => q (ix4 b g h l)) (fun b g h l => k (ix4 b g h l)) (fun h r => tb (ix2 h r)) b ⟨w / 64, by omega⟩ g x
          - Finset.univ.fold max (⊥ : EReal) (score (fun b g h l => q (ix4 b g h l)) (fun b g h l => k (ix4 b g h l)) (fun h r => tb (ix2 h r)) b ⟨w / 64, by omega⟩ g)) := by
    intro x
    rw [weights_at, hs]
    congr 2
    exact congrArg (fun f => Finset.univ.fold max (⊥ : EReal) f) (funext hs)
  rw [result_at]
  unfold attend soft
  refine Finset.sum_congr rfl fun x _ => ?_
  refine congrArg₂ (· * ·) ?_ (congrArg₂ Ideal.div (hw x) (Finset.sum_congr rfl fun x' _ => hw x'))
  rw [band_at]
  rfl

end Cert.ReferenceIdeal.Band

end
-- ==== Proof.Finite.lean ====
/- What the precondition gives: real queries, keys and biases. -/
module

public import proofs.«01_k».proof.Defs
public import proofs.«01_k».proof.Proof.Gen.Pre_finite
public import Idealize.ShloMosaic.Lib.ReduceAll
public import Idealize.ShloMosaic.Lib.Pointwise
public import proofs.«01_k».proof.Proof.Attend

@[expose] public section

set_option maxRecDepth 16384

noncomputable section

namespace Cert.Finite

open Idealize.ShloMosaic Idealize.ShloMosaic.TcCoe Idealize.SL.Sem Cert.Attend Cert.Pre_finite

theorem both {a b : BitVec 1} (h : IntOp.andi a b = 1#1) : a = 1#1 ∧ b = 1#1 := by
  revert a b; decide

theorem real_of_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : Ideal.cmp .olt (max x (-x)) (Ideal.ofBits .f32 0x7F800000#32) = 1#1 := h
  have hT : Ideal.ofBits .f32 0x7F800000#32 = (⊤ : EReal) := by simp [Ideal.ofBits, Ideal.ieee]
  rw [hT] at h'
  have hlt : max x (-x) < ⊤ := by
    by_contra hc
    rw [show Ideal.cmp .olt (max x (-x)) ⊤ = BitVec.ofBool (decide (max x (-x) < ⊤)) from rfl, decide_eq_false hc] at h'
    exact absurd h' (by decide)
  constructor
  · rintro rfl; simp at hlt
  · rintro rfl; simp at hlt

theorem finite_of (q k v : FVec Ideal S8x4096x8x64 .f32) (tb : FVec Ideal S8x257 .f32)
    (h : Cert.Pre_finite.fn (F := Ideal) q k v tb = fun _ => 1#1) :
    (∀ i, IsReal (q i)) ∧ (∀ i, IsReal (k i)) ∧ (∀ i, IsReal (tb i)) := by
  have e : ∀ i : S8x4096x8x64.Idx, _ := fun i => both (congrFun h i)
  refine ⟨fun i => real_of_lt _ (both (e i).1).1, fun i => real_of_lt _ (both (e i).1).2, fun i => ?_⟩
  haveI : Subsingleton S_.Idx := ⟨fun a b => funext fun z => z.elim0⟩
  exact real_of_lt _ (Host.reduce_andi_all _ _ _ _ _ (e fun a => ⟨0, by fin_cases a <;> decide⟩).2 i)

end Cert.Finite

end
-- ==== Proof.Claims.lean ====
/- The claims, each proved: the frames, the named constants, and the value claim. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Entry
public import proofs.«01_k».proof.Proof.Reference
public import proofs.«01_k».proof.Proof.Finite
public import Idealize.ShloMosaic.Lib.Quiescent

@[expose] public section

set_option maxRecDepth 16384

noncomputable section

namespace Cert.Proof.Claims

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

theorem preserves : Cert.preserves_Kernel_KernelIdeal :=
  ⟨IdealRules.named_const.statement Cert.KernelIdeal.κ "qk_scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- Under the precondition the kernel's result array is band attention of its arguments. -/
theorem kernel_out (m : (ℓ : Loc Cert.KernelIdeal.nD Cert.KernelIdeal.τ Cert.KernelIdeal.sig) → Buf (Elt Ideal) ℓ)
    (hpre : Cert.Pre_KernelIdeal_finite m) (c : Dev Cert.KernelIdeal.nD) :
    (Cert.KernelIdeal.Gen.dats m 0 c).arrAt 4 (Cert.KernelIdeal.cfgs 0).N = Cert.KernelIdeal.Band.OUT m c := by
  have e := Cert.Finite.finite_of _ _ _ _ (hpre c)
  exact Cert.KernelIdeal.Band.final m c (fun _ _ _ _ => e.1 _) (fun _ _ _ _ => e.2.1 _) (fun _ _ => e.2.2 _)
    (Cert.KernelIdeal.Band.reads m c)

/-- The reference's result array is the same function of the same arguments. -/
theorem reference_out (m : (ℓ : Loc Cert.KernelIdeal.nD Cert.KernelIdeal.τ Cert.KernelIdeal.sig) → Buf (Elt Ideal) ℓ)
    (c : Dev Cert.KernelIdeal.nD) :
    Cert.ReferenceIdeal.Band.result
      (Cert.ReferenceIdeal.Band.weights (Cert.ReferenceIdeal.Band.scores
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))))
      (m ((c.tc : Thread Cert.KernelIdeal.nD Cert.KernelIdeal.τ).loc Cert.KernelIdeal.main_arg2))
      = Cert.KernelIdeal.Band.OUT m c := by
  funext y
  obtain ⟨b, g, w, rfl⟩ : ∃ (b : Fin 8) (g : Fin 4096) (w : Fin 512), y = ix3 b g w := ⟨y 0, y 1, y 2, eq_ix3 y⟩
  exact Cert.ReferenceIdeal.Band.attend_at _ _ _ _ b g w

theorem algebraic : Cert.algebraic_KernelIdeal_ReferenceIdeal_pre_finite := by
  intro m ρ m' ρ' hpre hagree
  refine ⟨fun c => Cert.KernelIdeal.Band.OUT m c, ?_, ?_⟩
  · exact (θ_run Cert.KernelIdeal.defs _ _).mono (fun _ h c => ⟨(h c).1.trans (kernel_out m hpre c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Band.res_eq m' c).trans ?_
    rw [(hagree c).1, (hagree c).2.1, (hagree c).2.2.1, (hagree c).2.2.2]
    exact reference_out m c

end Cert.Proof.Claims

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.FfnClaims
public import proofs.«01_k».proof.Proof.FirstClaims
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_finite.Gen.facts,
  Claims.frame_kernel, Claims.frame_ideal, Claims.frame_ideal_finite, Claims.frame_reference, Claims.frame_reference_finite,
  Claims.frame_kernel2, Claims.frame_ideal2, Claims.frame_reference2, Claims.frame_kernel3, Claims.frame_ideal3, Claims.frame_reference3,
  Claims.preserves, Claims.algebraic, Claims.preserves2, Claims.algebraic2, Claims.preserves3, Claims.algebraic3⟩

end Cert.Proof

end
